-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_overflow [hPre_no_overflow : Cert.Pre_no_overflow.Facts] (m : (ℓ : Loc Cert.KernelIdeal.nD Cert.KernelIdeal.τ Cert.KernelIdeal.sig) → Buf (Elt Ideal) ℓ) : Prop :=
  ∀ c : Dev Cert.KernelIdeal.nD,
    (Cert.Pre_no_overflow.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_overflow [hPre_no_overflow : Cert.Pre_no_overflow.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_overflow.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_overflow [hKernelIdeal : Cert.KernelIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_overflow m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_overflow [hReferenceIdeal : Cert.ReferenceIdeal.Facts] [hPre_no_overflow : Cert.Pre_no_overflow.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_overflow m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_no_overflow [hKernelIdeal : Cert.KernelIdeal.Facts] [hReferenceIdeal : Cert.ReferenceIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_overflow m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_overflow : Cert.Pre_no_overflow.Facts),
    quiescent_Kernel (hKernel := hKernel)
    ∧ quiescent_KernelIdeal (hKernelIdeal := hKernelIdeal)
    ∧ quiescent_KernelIdeal_pre_no_overflow (hKernelIdeal := hKernelIdeal) (hPre_no_overflow := hPre_no_overflow)
    ∧ quiescent_ReferenceIdeal (hReferenceIdeal := hReferenceIdeal)
    ∧ quiescent_ReferenceIdeal_pre_no_overflow (hReferenceIdeal := hReferenceIdeal) (hPre_no_overflow := hPre_no_overflow)
    ∧ preserves_Kernel_KernelIdeal
    ∧ algebraic_KernelIdeal_ReferenceIdeal_pre_no_overflow (hKernelIdeal := hKernelIdeal) (hReferenceIdeal := hReferenceIdeal) (hPre_no_overflow := hPre_no_overflow)
-- ==== Pre_no_overflow.lean ====
abbrev S37x1024x10240 : Shape := ⟨3, ![37, 1024, 10240]⟩
abbrev S_ : Shape := ⟨0, ![]⟩

class Facts : Prop where
  bitsLt_bf16_f32 : FTy.bits .bf16 < FTy.bits .f32
  bcast_S_S37x1024x10240 : S_.BroadcastsInDim S37x1024x10240 (![] : Fin 0 → Fin S37x1024x10240.rank)
  reducesTo_S37x1024x10240_S_d0_1_2 : S37x1024x10240.ReducesTo [0, 1, 2] S_
  h_S_ : 0 < S_.numel

variable [Facts]

def fn {F : FTy → Type} [FloatOps F] (main_arg0 : FVec F S37x1024x10240 .bf16) : IVec S_ 1 :=
  let main_v0 : FVec F S37x1024x10240 .f32 := (extf .f32 · bitsLt_bf16_f32) main_arg0
  let main_v1 : FVec F S37x1024x10240 .f32 := Host.absf main_v0
  let main_cst : FVec F S_ .f32 := constant S_ .f32 0x5F800000#32
  let main_v2 : FVec F S37x1024x10240 .f32 := broadcastInDim S37x1024x10240 ![] bcast_S_S37x1024x10240 main_cst
  let main_v3 : IVec S37x1024x10240 1 := cmpf .ole main_v1 main_v2
  let main_c : IVec S_ 1 := constantI S_ 1 1#1
  let main_v4 : IVec S_ 1 := (fun x v => Host.reduce IntOp.andi x v reducesTo_S37x1024x10240_S_d0_1_2 h_S_) main_v3 main_c
  main_v4
-- ==== Kernel.lean ====
abbrev S37x1024x10240 : Shape := ⟨3, ![37, 1024, 10240]⟩
abbrev S256x256 : Shape := ⟨2, ![256, 256]⟩
abbrev S37888x10240 : Shape := ⟨2, ![37888, 10240]⟩
abbrev S37888x5120 : Shape := ⟨2, ![37888, 5120]⟩
abbrev S37x40x1024 : Shape := ⟨3, ![37, 40, 1024]⟩
abbrev S256x10240 : Shape := ⟨2, ![256, 10240]⟩
abbrev S256x5120 : Shape := ⟨2, ![256, 5120]⟩
abbrev S1x40x256 : Shape := ⟨3, ![1, 40, 256]⟩
abbrev S1024x256 : Shape := ⟨2, ![1024, 256]⟩
abbrev S2x64x128 : Shape := ⟨3, ![2, 64, 128]⟩
abbrev S8x256 : Shape := ⟨2, ![8, 256]⟩
abbrev S128x256 : Shape := ⟨2, ![128, 256]⟩
abbrev S16x8x256 : Shape := ⟨3, ![16, 8, 256]⟩
abbrev S8x128 : Shape := ⟨2, ![8, 128]⟩
abbrev S1x8x128 : Shape := ⟨3, ![1, 8, 128]⟩
abbrev S1x64x128 : Shape := ⟨3, ![1, 64, 128]⟩
abbrev S64x128 : Shape := ⟨2, ![64, 128]⟩
abbrev S1x8x256 : Shape := ⟨3, ![1, 8, 256]⟩
abbrev S1x256 : Shape := ⟨2, ![1, 256]⟩
abbrev S256x128 : Shape := ⟨2, ![256, 128]⟩
abbrev S37x1024x5120 : Shape := ⟨3, ![37, 1024, 5120]⟩
abbrev S37x1024x40 : Shape := ⟨3, ![37, 1024, 40]⟩

abbrev nBuf : Space → Nat
  | .hbm => 7
  | .vmem => 10
  | .smem => 0
  | _ => 0

abbrev bufTy : (tb : Table) → Fin (tcTables nBuf tb) → BufTy
  | .hbm, ⟨0, _⟩ => ⟨S37x1024x10240, .bf16⟩
  | .hbm, ⟨1, _⟩ => ⟨S256x256, .bf16⟩
  | .hbm, ⟨2, _⟩ => ⟨S37888x10240, .bf16⟩
  | .hbm, ⟨3, _⟩ => ⟨S37888x5120, .fp8e4m3⟩
  | .hbm, ⟨4, _⟩ => ⟨S37x40x1024, .f32⟩
  | .hbm, ⟨5, _⟩ => ⟨S37x1024x5120, .fp8e4m3⟩
  | .hbm, ⟨6, _⟩ => ⟨S37x1024x40, .f32⟩
  | .local _ .vmem, ⟨0, _⟩ => ⟨S256x256, .bf16⟩
  | .local _ .vmem, ⟨1, _⟩ => ⟨S256x10240, .bf16⟩
  | .local _ .vmem, ⟨2, _⟩ => ⟨S256x10240, .bf16⟩
  | .local _ .vmem, ⟨3, _⟩ => ⟨S256x5120, .fp8e4m3⟩
  | .local _ .vmem, ⟨4, _⟩ => ⟨S256x5120, .fp8e4m3⟩
  | .local _ .vmem, ⟨5, _⟩ => ⟨S1x40x256, .f32⟩
  | .local _ .vmem, ⟨6, _⟩ => ⟨S1x40x256, .f32⟩
  | .local _ .vmem, ⟨7, _⟩ => ⟨S1024x256, .f32⟩
  | .local _ .vmem, ⟨8, _⟩ => ⟨S2x64x128, .f32⟩
  | .local _ .vmem, ⟨9, _⟩ => ⟨S8x256, .f32⟩
  | _, _ => ⟨S37x1024x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![148], ![false]⟩

@[reducible] def k0_t1_loop : Scf.Loop 32 :=
  let c0_i32 : BitVec 32 := 0#32
  let c5_i32 : BitVec 32 := 5#32
  let v0 : BitVec 32 := Scalar.addi c0_i32 c5_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32 : BitVec 32 := 8#32
  let v4 : BitVec 32 := Scalar.muli v2 c8_i32
  let c0_i32_4 : BitVec 32 := 0#32
  let v5 : BitVec 32 := Scalar.addi v4 c0_i32_4
  let c256_i32 : BitVec 32 := 256#32
  let v6 : BitVec 32 := Scalar.muli v5 c256_i32
  v6
def k0_off1 (k0_t1 : Fin k0_t1_loop.trips) (c0_i32_4 : BitVec 32) : Fin 2 → Nat :=
  let c0_5 : Index := 0#32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32 : BitVec 32 := 8#32
  let v4 : BitVec 32 := Scalar.muli v2 c8_i32
  let v5 : BitVec 32 := Scalar.addi v4 c0_i32_4
  let c256_i32 : BitVec 32 := 256#32
  let v6 : BitVec 32 := Scalar.muli v5 c256_i32
  let v7 : BitVec 32 := v6
  let v8 : Index := Scalar.indexCast v7
  ![0, v8.toNat]
def k0_mult2 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_17 : BitVec 32 := 8#32
  let v37 : BitVec 32 := Scalar.muli v2 c8_i32_17
  let c1_i32_18 : BitVec 32 := 1#32
  let v38 : BitVec 32 := Scalar.addi v37 c1_i32_18
  let c256_i32_19 : BitVec 32 := 256#32
  let v39 : BitVec 32 := Scalar.muli v38 c256_i32_19
  v39
def k0_mult3 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_32 : BitVec 32 := 8#32
  let v70 : BitVec 32 := Scalar.muli v2 c8_i32_32
  let c2_i32 : BitVec 32 := 2#32
  let v71 : BitVec 32 := Scalar.addi v70 c2_i32
  let c256_i32_33 : BitVec 32 := 256#32
  let v72 : BitVec 32 := Scalar.muli v71 c256_i32_33
  v72
def k0_mult4 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_46 : BitVec 32 := 8#32
  let v103 : BitVec 32 := Scalar.muli v2 c8_i32_46
  let c3_i32 : BitVec 32 := 3#32
  let v104 : BitVec 32 := Scalar.addi v103 c3_i32
  let c256_i32_47 : BitVec 32 := 256#32
  let v105 : BitVec 32 := Scalar.muli v104 c256_i32_47
  v105
def k0_mult5 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_60 : BitVec 32 := 8#32
  let v136 : BitVec 32 := Scalar.muli v2 c8_i32_60
  let c4_i32 : BitVec 32 := 4#32
  let v137 : BitVec 32 := Scalar.addi v136 c4_i32
  let c256_i32_61 : BitVec 32 := 256#32
  let v138 : BitVec 32 := Scalar.muli v137 c256_i32_61
  v138
def k0_mult6 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_74 : BitVec 32 := 8#32
  let v169 : BitVec 32 := Scalar.muli v2 c8_i32_74
  let c5_i32_75 : BitVec 32 := 5#32
  let v170 : BitVec 32 := Scalar.addi v169 c5_i32_75
  let c256_i32_76 : BitVec 32 := 256#32
  let v171 : BitVec 32 := Scalar.muli v170 c256_i32_76
  v171
def k0_mult7 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_89 : BitVec 32 := 8#32
  let v202 : BitVec 32 := Scalar.muli v2 c8_i32_89
  let c6_i32 : BitVec 32 := 6#32
  let v203 : BitVec 32 := Scalar.addi v202 c6_i32
  let c256_i32_90 : BitVec 32 := 256#32
  let v204 : BitVec 32 := Scalar.muli v203 c256_i32_90
  v204
def k0_mult8 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_103 : BitVec 32 := 8#32
  let v235 : BitVec 32 := Scalar.muli v2 c8_i32_103
  let c7_i32 : BitVec 32 := 7#32
  let v236 : BitVec 32 := Scalar.addi v235 c7_i32
  let c256_i32_104 : BitVec 32 := 256#32
  let v237 : BitVec 32 := Scalar.muli v236 c256_i32_104
  v237
def k0_mult9 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_194 : BitVec 32 := 8#32
  let v381 : BitVec 32 := Scalar.muli v2 c8_i32_194
  v381
def k0_off2 (k0_t1 : Fin k0_t1_loop.trips) : Fin 3 → Nat :=
  let c0_196 : Index := 0#32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_194 : BitVec 32 := 8#32
  let v381 : BitVec 32 := Scalar.muli v2 c8_i32_194
  let v382 : BitVec 32 := v381
  let v386 : Index := Scalar.indexCast v382
  let c0_197 : Index := 0#32
  ![0, v386.toNat, 0]
def k0_mult10 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_206 : BitVec 32 := 8#32
  let v405 : BitVec 32 := Scalar.muli v2 c8_i32_206
  let c0_i32_207 : BitVec 32 := 0#32
  let v406 : BitVec 32 := Scalar.addi v405 c0_i32_207
  let c128_i32 : BitVec 32 := 128#32
  let v407 : BitVec 32 := Scalar.muli v406 c128_i32
  v407
def k0_off3 (k0_t1 : Fin k0_t1_loop.trips) (c0_i32_207 : BitVec 32) : Fin 2 → Nat :=
  let c0_208 : Index := 0#32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_206 : BitVec 32 := 8#32
  let v405 : BitVec 32 := Scalar.muli v2 c8_i32_206
  let v406 : BitVec 32 := Scalar.addi v405 c0_i32_207
  let c128_i32 : BitVec 32 := 128#32
  let v407 : BitVec 32 := Scalar.muli v406 c128_i32
  let v408 : BitVec 32 := v407
  let v410 : Index := Scalar.indexCast v408
  ![0, v410.toNat]
def k0_mult11 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_215 : BitVec 32 := 8#32
  let v421 : BitVec 32 := Scalar.muli v2 c8_i32_215
  let c1_i32_216 : BitVec 32 := 1#32
  let v422 : BitVec 32 := Scalar.addi v421 c1_i32_216
  let c128_i32_217 : BitVec 32 := 128#32
  let v423 : BitVec 32 := Scalar.muli v422 c128_i32_217
  v423
def k0_mult12 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_225 : BitVec 32 := 8#32
  let v437 : BitVec 32 := Scalar.muli v2 c8_i32_225
  let c2_i32_226 : BitVec 32 := 2#32
  let v438 : BitVec 32 := Scalar.addi v437 c2_i32_226
  let c128_i32_227 : BitVec 32 := 128#32
  let v439 : BitVec 32 := Scalar.muli v438 c128_i32_227
  v439
def k0_mult13 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_235 : BitVec 32 := 8#32
  let v453 : BitVec 32 := Scalar.muli v2 c8_i32_235
  let c3_i32_236 : BitVec 32 := 3#32
  let v454 : BitVec 32 := Scalar.addi v453 c3_i32_236
  let c128_i32_237 : BitVec 32 := 128#32
  let v455 : BitVec 32 := Scalar.muli v454 c128_i32_237
  v455
def k0_mult14 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_245 : BitVec 32 := 8#32
  let v469 : BitVec 32 := Scalar.muli v2 c8_i32_245
  let c4_i32_246 : BitVec 32 := 4#32
  let v470 : BitVec 32 := Scalar.addi v469 c4_i32_246
  let c128_i32_247 : BitVec 32 := 128#32
  let v471 : BitVec 32 := Scalar.muli v470 c128_i32_247
  v471
def k0_mult15 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_255 : BitVec 32 := 8#32
  let v485 : BitVec 32 := Scalar.muli v2 c8_i32_255
  let c5_i32_256 : BitVec 32 := 5#32
  let v486 : BitVec 32 := Scalar.addi v485 c5_i32_256
  let c128_i32_257 : BitVec 32 := 128#32
  let v487 : BitVec 32 := Scalar.muli v486 c128_i32_257
  v487
def k0_mult16 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_265 : BitVec 32 := 8#32
  let v501 : BitVec 32 := Scalar.muli v2 c8_i32_265
  let c6_i32_266 : BitVec 32 := 6#32
  let v502 : BitVec 32 := Scalar.addi v501 c6_i32_266
  let c128_i32_267 : BitVec 32 := 128#32
  let v503 : BitVec 32 := Scalar.muli v502 c128_i32_267
  v503
def k0_mult17 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c8_i32_275 : BitVec 32 := 8#32
  let v517 : BitVec 32 := Scalar.muli v2 c8_i32_275
  let c7_i32_276 : BitVec 32 := 7#32
  let v518 : BitVec 32 := Scalar.addi v517 c7_i32_276
  let c128_i32_277 : BitVec 32 := 128#32
  let v519 : BitVec 32 := Scalar.muli v518 c128_i32_277
  v519
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x40x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S37x1024x10240 : Shape := ⟨3, ![37, 1024, 10240]⟩
abbrev S37x1024x5120 : Shape := ⟨3, ![37, 1024, 5120]⟩
abbrev S_ : Shape := ⟨0, ![]⟩
abbrev S37x1024x40x128 : Shape := ⟨4, ![37, 1024, 40, 128]⟩
abbrev S37x1024x40 : Shape := ⟨3, ![37, 1024, 40]⟩
abbrev S37x1024x40x1 : Shape := ⟨4, ![37, 1024, 40, 1]⟩

abbrev nBuf : Space → Nat
  | .hbm => 58
  | .vmem => 0
  | .smem => 0
  | _ => 0

abbrev bufTy : (tb : Table) → Fin (tcTables nBuf tb) → BufTy
  | .hbm, ⟨0, _⟩ => ⟨S37x1024x10240, .bf16⟩
  | .hbm, ⟨1, _⟩ => ⟨S37x1024x5120, .bf16⟩
  | .hbm, ⟨2, _⟩ => ⟨S37x1024x5120, .f32⟩
  | .hbm, ⟨3, _⟩ => ⟨S37x1024x5120, .bf16⟩
  | .hbm, ⟨4, _⟩ => ⟨S37x1024x5120, .f32⟩
  | .hbm, ⟨5, _⟩ => ⟨S37x1024x5120, .f32⟩
  | .hbm, ⟨6, _⟩ => ⟨S37x1024x5120, .f32⟩
  | .hbm, ⟨7, _⟩ => ⟨S_, .f32⟩
  | .hbm, ⟨8, _⟩ => ⟨S37x1024x5120, .f32⟩
  | .hbm, ⟨9, _⟩ => ⟨S37x1024x5120, .f32⟩
  | .hbm, ⟨10, _⟩ => ⟨S_, .f32⟩
  | .hbm, ⟨11, _⟩ => ⟨S37x1024x5120, .f32⟩
  | .hbm, ⟨12, _⟩ => ⟨S37x1024x5120, .f32⟩
  | .hbm, ⟨13, _⟩ => ⟨S37x1024x5120, .f32⟩
  | .hbm, ⟨14, _⟩ => ⟨S37x1024x5120, .f32⟩
  | .hbm, ⟨15, _⟩ => ⟨S37x1024x40x128, .f32⟩
  | .hbm, ⟨16, _⟩ => ⟨S37x1024x40x128, .f32⟩
  | .hbm, ⟨17, _⟩ => ⟨S_, .f32⟩
  | .hbm, ⟨18, _⟩ => ⟨S37x1024x40, .f32⟩
  | .hbm, ⟨19, _⟩ => ⟨S_, .f32⟩
  | .hbm, ⟨20, _⟩ => ⟨S37x1024x40, .f32⟩
  | .hbm, ⟨21, _⟩ => ⟨S37x1024x40, .f32⟩
  | .hbm, ⟨22, _⟩ => ⟨S37x1024x40, .f32⟩
  | .hbm, ⟨23, _⟩ => ⟨S_, .f32⟩
  | .hbm, ⟨24, _⟩ => ⟨S_, .f32⟩
  | .hbm, ⟨25, _⟩ => ⟨S37x1024x40, .f32⟩
  | .hbm, ⟨26, _⟩ => ⟨S37x1024x40, .f32⟩
  | .hbm, ⟨27, _⟩ => ⟨S37x1024x40, .f32⟩
  | .hbm, ⟨28, _⟩ => ⟨S_, .f32⟩
  | .hbm, ⟨29, _⟩ => ⟨S37x1024x40, .f32⟩
  | .hbm, ⟨30, _⟩ => ⟨S37x1024x40, .f32⟩
  | .hbm, ⟨31, _⟩ => ⟨S_, .f32⟩
  | .hbm, ⟨32, _⟩ => ⟨S37x1024x40, .f32⟩
  | .hbm, ⟨33, _⟩ => ⟨S37x1024x40, .i1⟩
  | .hbm, ⟨34, _⟩ => ⟨S_, .f32⟩
  | .hbm, ⟨35, _⟩ => ⟨S_, .f32⟩
  | .hbm, ⟨36, _⟩ => ⟨S37x1024x40, .f32⟩
  | .hbm, ⟨37, _⟩ => ⟨S37x1024x40, .f32⟩
  | .hbm, ⟨38, _⟩ => ⟨S_, .f32⟩
  | .hbm, ⟨39, _⟩ => ⟨S37x1024x40, .f32⟩
  | .hbm, ⟨40, _⟩ => ⟨S37x1024x40, .f32⟩
  | .hbm, ⟨41, _⟩ => ⟨S37x1024x40, .f32⟩
  | .hbm, ⟨42, _⟩ => ⟨S_, .f32⟩
  | .hbm, ⟨43, _⟩ => ⟨S37x1024x40, .f32⟩
  | .hbm, ⟨44, _⟩ => ⟨S37x1024x40, .f32⟩
  | .hbm, ⟨45, _⟩ => ⟨S37x1024x40x1, .f32⟩
  | .hbm, ⟨46, _⟩ => ⟨S37x1024x40x128, .f32⟩
  | .hbm, ⟨47, _⟩ => ⟨S37x1024x40x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S37x1024x40x128, .f32⟩
  | .hbm, ⟨52, _⟩ => ⟨S37x1024x40x128, .f32⟩
  | .hbm, ⟨53, _⟩ => ⟨S_, .f32⟩
  | .hbm, ⟨54, _⟩ => ⟨S37x1024x40x128, .f32⟩
  | .hbm, ⟨55, _⟩ => ⟨S37x1024x40x128, .f32⟩
  | .hbm, ⟨56, _⟩ => ⟨S37x1024x40x128, .fp8e4m3⟩
  | .hbm, ⟨57, _⟩ => ⟨S37x1024x5120, .fp8e4m3⟩
  | _, _ => ⟨S37x1024x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_cst_10 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Proof.Trip.lean ====
/-
  One trip of the kernel's loop.
-/
module

public import proofs.«01_k».proof.Proof.Gen.Kernel.Frame
public import proofs.«01_k».proof.Proof.Gen.Kernel.Loops
public import proofs.«01_k».proof.Proof.Gen.Kernel.Skeleton
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole VMEM buffer held at contents `f`. -/
abbrev held (c : Dev nD) {s : Shape} {e : EltTy} (a : Memref sig .tc .vmem s e) (f : BufTy.Contents (Elt F) a.view.ty) : sProp 𝕄 :=
  a.view.loc (c : Thread nD τ) ↦[a.view.set]{fullShare} f

variable (c : Dev nD) (i : grid0.Coords)
  (arg1 : Memref sig .tc .vmem S256x256 .bf16) (harg1 : arg1.IsWhole)
  (arg2 : Memref sig .tc .vmem S256x10240 .bf16) (harg2 : arg2.IsWhole)
  (arg3 : Memref sig .tc .vmem S256x5120 .fp8e4m3) (harg3 : arg3.IsWhole)
  (arg4 : Memref sig .tc .vmem S1x40x256 .f32) (harg4 : arg4.IsWhole)
  (arg5 : Memref sig .tc .vmem S1024x256 .f32) (harg5 : arg5.IsWhole)
  (arg6 : Memref sig .tc .vmem S2x64x128 .f32) (harg6 : arg6.IsWhole)
  (arg7 : Memref sig .tc .vmem S8x256 .f32) (harg7 : arg7.IsWhole)

/-- What one trip holds: the two input blocks, the two output blocks and the three scratch buffers. -/
abbrev Trip (f1 : BufTy.Contents (Elt F) arg1.view.ty) (f2 : BufTy.Contents (Elt F) arg2.view.ty)
    (f3 : BufTy.Contents (Elt F) arg3.view.ty) (f4 : BufTy.Contents (Elt F) arg4.view.ty) : sProp 𝕄 :=
  iprop(held c arg1 f1 ∗ held c arg2 f2 ∗ held c arg3 f3 ∗ held c arg4 f4
    ∗ (∃ f5, held c arg5 f5) ∗ (∃ f6, held c arg6 f6) ∗ (∃ f7, held c arg7 f7))

set_option sl_exec.squeezeSlice true in
/-- One trip, run at a symbolic `k`: the pieces it leaves in the two output blocks, as functions of what the input blocks
    hold alone (the scratch buffers are written before they are read). -/
@[irreducible] def trip (f1 : BufTy.Contents (Elt F) arg1.view.ty) (f2 : BufTy.Contents (Elt F) arg2.view.ty) (k : Fin k0_t1_loop.trips) :
    { L : List (View.Piece (Elt F) S256x5120 .fp8e4m3) × List (View.Piece (Elt F) S1x40x256 .f32) // ∀ f3 f4,
      Trip (F := F) c arg1 arg2 arg3 arg4 arg5 arg6 arg7 f1 f2 f3 f4
      ⊢ wp frame (wpE (defs₀ (F := F)) Variants.none (c : Thread nD τ) none) Set.univ
          (k0_t1_body (F := F) i arg1 harg1 arg2 harg2 arg3 harg3 arg4 harg4 arg5 harg5 arg6 harg6 arg7 harg7 k ())
          (fun _ => Trip (F := F) c arg1 arg2 arg3 arg4 arg5 arg6 arg7 f1 f2
            (arg3.view.writes (Elt F) f3 L.1) (arg4.view.writes (Elt F) f4 L.2)) } := by
  refine ⟨⟨?L3, ?L4⟩, fun f3 f4 => ?run⟩
  case run =>
    unfold k0_t1_body
    iintro ⟨H1, H2, H3, H4, ⟨%f5, H5⟩, ⟨%f6, H6⟩, ⟨%f7, H7⟩⟩
    sl_exec
    sl_step
    sl_close

/-- The pieces the trips before trip `k` leave, last first. -/
@[irreducible] def pbStep (f1 : BufTy.Contents (Elt F) arg1.view.ty) (f2 : BufTy.Contents (Elt F) arg2.view.ty) (k : ℕ)
    (prev : List (View.Piece (Elt F) S256x5120 .fp8e4m3) × List (View.Piece (Elt F) S1x40x256 .f32)) :
    List (View.Piece (Elt F) S256x5120 .fp8e4m3) × List (View.Piece (Elt F) S1x40x256 .f32) :=
  if h : k < k0_t1_loop.trips then
    let L := (trip (F := F) c i arg1 harg1 arg2 harg2 arg3 harg3 arg4 harg4 arg5 harg5 arg6 harg6 arg7 harg7 f1 f2 ⟨k, h⟩).1
    (L.1 ++ prev.1, L.2 ++ prev.2)
  else prev

@[inherit_doc pbStep]
def pb (f1 : BufTy.Contents (Elt F) arg1.view.ty) (f2 : BufTy.Contents (Elt F) arg2.view.ty) :
    ℕ → List (View.Piece (Elt F) S256x5120 .fp8e4m3) × List (View.Piece (Elt F) S1x40x256 .f32)
  | 0 => ([], [])
  | k + 1 => pbStep (F := F) c i arg1 harg1 arg2 harg2 arg3 harg3 arg4 harg4 arg5 harg5 arg6 harg6 arg7 harg7 f1 f2 k (pb f1 f2 k)

theorem pb_succ (f1 : BufTy.Contents (Elt F) arg1.view.ty) (f2 : BufTy.Contents (Elt F) arg2.view.ty) (k : Fin k0_t1_loop.trips) :
    pb (F := F) c i arg1 harg1 arg2 harg2 arg3 harg3 arg4 harg4 arg5 harg5 arg6 harg6 arg7 harg7 f1 f2 (k.val + 1)
      = ((trip (F := F) c i arg1 harg1 arg2 harg2 arg3 harg3 arg4 harg4 arg5 harg5 arg6 harg6 arg7 harg7 f1 f2 k).1.1
          ++ (pb (F := F) c i arg1 harg1 arg2 harg2 arg3 harg3 arg4 harg4 arg5 harg5 arg6 harg6 arg7 harg7 f1 f2 k.val).1,
         (trip (F := F) c i arg1 harg1 arg2 harg2 arg3 harg3 arg4 harg4 arg5 harg5 arg6 harg6 arg7 harg7 f1 f2 k).1.2
          ++ (pb (F := F) c i arg1 harg1 arg2 harg2 arg3 harg3 arg4 harg4 arg5 harg5 arg6 harg6 arg7 harg7 f1 f2 k.val).2) := by
  rw [pb.eq_2]; unfold pbStep; exact dif_pos k.isLt

/-- Before trip `k`: the inputs as they were, the outputs with the pieces of the trips before, the scratches at anything. -/
abbrev inv (f1 : BufTy.Contents (Elt F) arg1.view.ty) (f2 : BufTy.Contents (Elt F) arg2.view.ty)
    (g3 : BufTy.Contents (Elt F) arg3.view.ty) (g4 : BufTy.Contents (Elt F) arg4.view.ty) (k : ℕ) (_u : Unit) : sProp 𝕄 :=
  iprop(held c arg1 f1 ∗ held c arg2 f2
    ∗ (∃ f3, held c arg3 f3 ∗ ⌜f3 = arg3.view.writes (Elt F) g3
        (pb (F := F) c i arg1 harg1 arg2 harg2 arg3 harg3 arg4 harg4 arg5 harg5 arg6 harg6 arg7 harg7 f1 f2 k).1⌝)
    ∗ (∃ f4, held c arg4 f4 ∗ ⌜f4 = arg4.view.writes (Elt F) g4
        (pb (F := F) c i arg1 harg1 arg2 harg2 arg3 harg3 arg4 harg4 arg5 harg5 arg6 harg6 arg7 harg7 f1 f2 k).2⌝)
    ∗ (∃ f5, held c arg5 f5) ∗ (∃ f6, held c arg6 f6) ∗ (∃ f7, held c arg7 f7))

set_option warn.classDefReducibility false in
/-- The loop's invariant, kept by one trip. -/
@[sl_loop] def loopInv (f1 : BufTy.Contents (Elt F) arg1.view.ty) (f2 : BufTy.Contents (Elt F) arg2.view.ty)
    (g3 : BufTy.Contents (Elt F) arg3.view.ty) (g4 : BufTy.Contents (Elt F) arg4.view.ty) :
    LoopInvTy_k0_t1 (F := F) Unit ℕ (UR sig nD τ) ℕ Variants.none c none Set.univ i arg1 harg1 arg2 harg2 arg3 harg3 arg4 harg4
      arg5 harg5 arg6 harg6 arg7 harg7 where
  inv := inv (F := F) c i arg1 harg1 arg2 harg2 arg3 harg3 arg4 harg4 arg5 harg5 arg6 harg6 arg7 harg7 f1 f2 g3 g4
  step k acc := by
    iintro ⟨H1, H2, ⟨%f3, H3, %h3⟩, ⟨%f4, H4, %h4⟩, H5, H6, H7⟩
    iapply (wp_wand_r Idealize.ShloMosaic.frame (wpE (defs₀ (F := F)) Variants.none (c : Thread nD τ) none) Set.univ)
    isplitl [H1 H2 H3 H4 H5 H6 H7]
    · iapply ((trip (F := F) c i arg1 harg1 arg2 harg2 arg3 harg3 arg4 harg4 arg5 harg5 arg6 harg6 arg7 harg7 f1 f2 k).2 f3 f4)
      isplitl [H1]; · iexact H1
      isplitl [H2]; · iexact H2
      isplitl [H3]; · iexact H3
      isplitl [H4]; · iexact H4
      isplitl [H5]; · iexact H5
      isplitl [H6]; · iexact H6
      iexact H7
    · iintro %_ ⟨H1, H2, H3, H4, H5, H6, H7⟩
      unfold inv
      rw [pb_succ]
      isplitl [H1]; · iexact H1
      isplitl [H2]; · iexact H2
      isplitl [H3]
      · iexists _; isplitl [H3]; · iexact H3
        ipureintro; rw [h3, ← View.writes_append]
      isplitl [H4]
      · iexists _; isplitl [H4]; · iexact H4
        ipureintro; rw [h4, ← View.writes_append]
      isplitl [H5]; · iexact H5
      isplitl [H6]; · iexact H6
      iexact H7

end Cert.Proof.Kernel
-- ==== Proof.Pieces.lean ====
/-
  What one trip of the kernel's loop computes, as plain functions of the two input blocks, and the pieces that agree with
  the arrays they make up.
-/
module

public import proofs.«01_k».proof.Proof.Trip
public import Idealize.ShloMosaic.Lib.ValueLayout
public import Idealize.ShloMosaic.Lib.Claim
public import Idealize.ShloMosaic.Lib.Pipeline.ValueKit

@[expose] public section

set_option maxRecDepth 16384

noncomputable section

namespace Cert.Proof.Kernel

open Cert.Kernel Cert.Kernel.Gen
open Idealize.ShloMosaic hiding ix1 ix2 ix3 ix4 ix5 ix6 eq_ix1 eq_ix2 eq_ix3 eq_ix4
open Idealize.ShloMosaic.TcCoe Idealize.ShloMosaic.Tactic
open Idealize.SL Idealize.SL.RA Idealize.SL.BI
open scoped Idealize.SL.BI
open Idealize.ShloMosaic.ValueIdx Idealize.ShloMosaic.ValueKit
open Idealize.SL.BI.BIBase Idealize.SL.BI.Laws Idealize.SL.ProofMode Idealize.SL.Sem

variable {F : FTy → Type} [FloatOps F]

/-! ## What one trip computes, from the two input blocks

`x1` is the selection matrix's block, `x2` the block of 256 rows of gate and up pairs; trip `k` handles eight groups of
128 channels, group `j` of it being the 256 columns `2048*k + 256*j …` of `x2`. -/

section Spec

variable (x1 : Vec F S256x256 .bf16) (x2 : Vec F S256x10240 .bf16) (k : Fin k0_t1_loop.trips)

/-- The selection matrix as loaded. -/
def sel : Vec F S256x256 .bf16 := View.ld x1 (Rect.unit (s := S256x256) ![0, 0] S256x256.size inb_S256x256_S256x256_0_0)

/-- Group `j`'s columns. -/
def blk (j : Fin 8) : Vec F S256x256 .bf16 := View.ld x2 (Rect.unit (s := S256x10240) (k0_off1 k (BitVec.ofNat 32 j.val)) S256x256.size (k0_off1_inb k j))

/-- Group `j`'s channels, channel by row of tokens. -/
def yT (j : Fin 8) : FVec F S128x256 .f32 := k0_pay3 (sel x1) (blk x2 k j)

/-- Group `j`'s maxima over the channels equal modulo eight. -/
def mT (j : Fin 8) : FVec F S8x256 .f32 := k0_pay5 (sel x1) (blk x2 k j)

/-- The eight groups' channels, one below the other. -/
def yArr : Vec F S1024x256 .f32 := fun q =>
  yT x1 x2 k ⟨(q 0).val / 128, by have := (q 0).isLt; change (q 0).val < 1024 at this; omega⟩
    (ix2 (⟨(q 0).val % 128, by omega⟩ : Fin 128) (q 1 : Fin 256))

/-- The eight groups' maxima, one below the other, the two halves of the tokens apart. -/
def mArr : Vec F S2x64x128 .f32 := fun q =>
  mT x1 x2 k ⟨(q 1).val / 8, by have := (q 1).isLt; change (q 1).val < 64 at this; omega⟩
    (ix2 (⟨(q 1).val % 8, by omega⟩ : Fin 8) (⟨128 * (q 0).val + (q 2).val, by
      have h0 := (q 0).isLt; have h2 := (q 2).isLt; change (q 0).val < 2 at h0; change (q 2).val < 128 at h2; omega⟩ : Fin 256))

/-- Rows `s, s + 8, …` of half `h` of them. -/
def mRow (h s : ℕ) : Vec F S8x128 .f32 := fun x =>
  mArr x1 x2 k (ix3 (Fin.ofNat 2 h) (Fin.ofNat 64 (s + 8 * (x 0).val)) (x 1 : Fin 128))

/-- The groups' largest magnitudes over 448: row `j` is group `j`. -/
def aArr : FVec F S8x256 .f32 :=
  k0_pay53 (k0_pay51 (k0_pay50 (mRow x1 x2 k 0 0) (mRow x1 x2 k 0 1) (mRow x1 x2 k 0 2) (mRow x1 x2 k 0 3) (mRow x1 x2 k 0 4))
      (mRow x1 x2 k 0 5) (mRow x1 x2 k 0 6) (mRow x1 x2 k 0 7))
    (k0_pay52 (mRow x1 x2 k 1 0) (mRow x1 x2 k 1 1) (mRow x1 x2 k 1 2) (mRow x1 x2 k 1 3))
    (mRow x1 x2 k 1 4) (mRow x1 x2 k 1 5) (mRow x1 x2 k 1 6) (mRow x1 x2 k 1 7)

/-- The first half of the search for their exponent fields. -/
def eArr : IVec S8x256 32 :=
  k0_pay54 (k0_pay51 (k0_pay50 (mRow x1 x2 k 0 0) (mRow x1 x2 k 0 1) (mRow x1 x2 k 0 2) (mRow x1 x2 k 0 3) (mRow x1 x2 k 0 4))
      (mRow x1 x2 k 0 5) (mRow x1 x2 k 0 6) (mRow x1 x2 k 0 7))
    (k0_pay52 (mRow x1 x2 k 1 0) (mRow x1 x2 k 1 1) (mRow x1 x2 k 1 2) (mRow x1 x2 k 1 3))
    (mRow x1 x2 k 1 4) (mRow x1 x2 k 1 5) (mRow x1 x2 k 1 6) (mRow x1 x2 k 1 7)

/-- The groups' scales. -/
def scT : FVec F S1x8x256 .f32 := k0_pay57 (aArr x1 x2 k) (eArr x1 x2 k) k0_pay55

/-- Their inverses. -/
def invT : FVec F S8x256 .f32 := k0_pay58 (aArr x1 x2 k) (eArr x1 x2 k) k0_pay55

/-- Group `j`'s codes, token by channel. -/
def codeT (j : Fin 8) : FVec F S256x128 .fp8e4m3 := k0_pay60 (yT x1 x2 k j) (fun x => invT x1 x2 k (ix2 j (x 1 : Fin 256)))

end Spec

/-- What the body leaves in the codes' block. -/
def codesOut (x1 : Vec F S256x256 .bf16) (x2 : Vec F S256x10240 .bf16) : Vec F S256x5120 .fp8e4m3 := fun y =>
  codeT x1 x2 ⟨(y 1).val / 1024, by have := (y 1).isLt; change (y 1).val < 5120 at this; change _ < 5; omega⟩
    ⟨(y 1).val % 1024 / 128, by omega⟩ (ix2 (y 0 : Fin 256) (⟨(y 1).val % 128, by omega⟩ : Fin 128))

/-- What the body leaves in the scales' block. -/
def scalesOut (x1 : Vec F S256x256 .bf16) (x2 : Vec F S256x10240 .bf16) : Vec F S1x40x256 .f32 := fun y =>
  scT x1 x2 ⟨(y 1).val / 8, by have := (y 1).isLt; change (y 1).val < 40 at this; change _ < 5; omega⟩
    (ix3 (0 : Fin 1) (⟨(y 1).val % 8, by omega⟩ : Fin 8) (y 2 : Fin 256))

/-! ## Pieces that agree with an array -/

/-- Stored at rows `128*j …`, group `j`'s channels are the array's. -/
theorem yArr_piece (x1 : Vec F S256x256 .bf16) (x2 : Vec F S256x10240 .bf16) (k : Fin k0_t1_loop.trips) (j : Fin 8) (n : ℕ) (hn : n = 128 * j.val)
    (inb : ∀ a, (![n, 0] : Fin 2 → ℕ) a + S128x256.size a ≤ S1024x256.size a) (w : FVec F S128x256 .f32)
    (hw : w = shapeCast S128x256 (yT x1 x2 k j) shapeCasts_S128x256_S128x256) (x : S128x256.Idx) :
    w x = yArr x1 x2 k ((Rect.unit (s := S1024x256) ![n, 0] S128x256.size inb).emb x) := by
  subst hn hw
  rw [shapeCast_self]
  have h0 := (x 0).isLt; change (x 0).val < 128 at h0
  have e0 : ((Rect.unit (s := S1024x256) ![128 * j.val, 0] S128x256.size inb).emb x 0 : ℕ) = 128 * j.val + (x 0).val := by
    rw [rect_emb_unit_val]; rfl
  have e1 : ((Rect.unit (s := S1024x256) ![128 * j.val, 0] S128x256.size inb).emb x 1 : ℕ) = (x 1).val := by
    rw [rect_emb_unit_val]; exact Nat.zero_add _
  unfold yArr
  have ej : (⟨((Rect.unit (s := S1024x256) ![128 * j.val, 0] S128x256.size inb).emb x 0 : ℕ) / 128, by rw [e0]; omega⟩ : Fin 8) = j :=
    Fin.ext (by show _ / 128 = _; rw [e0]; omega)
  rw [ej]
  refine congrArg (yT x1 x2 k j) ((eq_ix2 x).trans ?_)
  congr 1
  · exact Fin.ext (by show _ = _ % 128; rw [e0]; show (x 0).val = _; omega)
  · exact Fin.ext e1.symm

/-- Half `h` of group `j`'s maxima, stored at rows `8*j …` of half `h`, are the array's. -/
theorem mArr_piece (x1 : Vec F S256x256 .bf16) (x2 : Vec F S256x10240 .bf16) (k : Fin k0_t1_loop.trips) (j : Fin 8) (h n o : ℕ) (hn : n = 8 * j.val)
    (ho : o = 128 * h)
    (inb : ∀ a, (![h, n, 0] : Fin 3 → ℕ) a + S1x8x128.size a ≤ S2x64x128.size a) (hs : S8x256.Slices ![0, o] S8x128) (w : FVec F S1x8x128 .f32)
    (hw : w = shapeCast S1x8x128 (extractStridedSlice S8x128 ![0, o] (mT x1 x2 k j) hs) shapeCasts_S8x128_S1x8x128) (x : S1x8x128.Idx) :
    w x = mArr x1 x2 k ((Rect.unit (s := S2x64x128) ![h, n, 0] S1x8x128.size inb).emb x) := by
  subst hn hw ho
  have h0 := (x 0).isLt; change (x 0).val < 1 at h0
  have h1 := (x 1).isLt; change (x 1).val < 8 at h1
  have h2 := (x 2).isLt; change (x 2).val < 128 at h2
  have hh : h < 2 := by have := inb 0; change h + 1 ≤ 2 at this; omega
  have e0 : ((Rect.unit (s := S2x64x128) ![h, 8 * j.val, 0] S1x8x128.size inb).emb x 0 : ℕ) = h := by
    rw [rect_emb_unit_val]; show h + (x 0).val = h; omega
  have e1 : ((Rect.unit (s := S2x64x128) ![h, 8 * j.val, 0] S1x8x128.size inb).emb x 1 : ℕ) = 8 * j.val + (x 1).val := by
    rw [rect_emb_unit_val]; rfl
  have e2 : ((Rect.unit (s := S2x64x128) ![h, 8 * j.val, 0] S1x8x128.size inb).emb x 2 : ℕ) = (x 2).val := by
    rw [rect_emb_unit_val]; exact Nat.zero_add _
  have ej : (⟨((Rect.unit (s := S2x64x128) ![h, 8 * j.val, 0] S1x8x128.size inb).emb x 1 : ℕ) / 8, by rw [e1]; omega⟩ : Fin 8) = j :=
    Fin.ext (by show _ / 8 = _; rw [e1]; omega)
  unfold mArr
  rw [ej]
  refine (congrArg _ (eq_ix3 x)).trans ((shapeCast_ab_1ab_apply _ _ _ _ _).trans (extractStridedSlice_apply _ _ _ _ _ ?_))
  intro a
  match a with
  | ⟨0, _⟩ => show _ % 8 = 0 + (x 1).val; rw [e1]; omega
  | ⟨1, _⟩ => show 128 * _ + _ = 128 * h + (x 2).val; rw [e0, e2]

/-- A strided read of half `h`, through that half, is its rows `s, s + 8, …`. -/
theorem mRow_of_read (x1 : Vec F S256x256 .bf16) (x2 : Vec F S256x10240 .bf16) (k : Fin k0_t1_loop.trips) (v : View sig .tc .vmem S2x64x128 .f32)
    (L : List (View.Piece (Elt F) S2x64x128 .f32)) (hL : ∀ y, View.canon L y = mArr x1 x2 k y) (h s : ℕ)
    (inb : ∀ a, (![h, 0, 0] : Fin 3 → ℕ) a + S1x64x128.size a ≤ S2x64x128.size a) (inb') (h0) (hs) (hw)
    (hR : S8x128.numel = ((Rect.unit (s := S2x64x128) ![h, 0, 0] S1x64x128.size inb).withinL
        (LoadRect.consLift (⟨![s, 0], S8x128.size, ![8, 1], inb'⟩ : LoadRect S64x128) ![1, 64, 128] h0 hs) hw).shape.numel) :
    (LoadRect.valAlong (lr := (⟨![s, 0], S8x128.size, ![8, 1], inb'⟩ : LoadRect S64x128)) hR (v.readCov L ((Rect.unit (s := S2x64x128) ![h, 0, 0] S1x64x128.size inb).withinL
        (LoadRect.consLift (⟨![s, 0], S8x128.size, ![8, 1], inb'⟩ : LoadRect S64x128) ![1, 64, 128] h0 hs) hw)) : Vec F S8x128 .f32)
      = mRow x1 x2 k h s := by
  have hh : h < 2 := by have := inb 0; change h + 1 ≤ 2 at this; omega
  rw [View.readCov_eq_canon']
  funext x
  have hx0 := (x 0).isLt; change (x 0).val < 8 at hx0
  have hx1 := (x 1).isLt; change (x 1).val < 128 at hx1
  have hs8 : s + 8 * 7 < 64 := by have := inb' 0; change 8 = 0 ∨ s + 8 * (8 - 1) < 64 at this; omega
  show View.canon L (((Rect.unit (s := S2x64x128) ![h, 0, 0] S1x64x128.size inb).withinL _ hw).idx _) = _
  rw [hL]
  unfold mRow
  refine congrArg (mArr x1 x2 k) ?_
  refine (Rect.idx_withinL _ _ hw _).trans ?_
  refine (congrArg (Rect.unit (s := S2x64x128) ![h, 0, 0] S1x64x128.size inb).emb (LoadRect.liftsTo_consLift _ _ h0 hs x).symm).trans ?_
  rw [Shape.reshapeEquiv_cons_one]
  funext a
  apply Fin.ext
  match a with
  | ⟨0, _⟩ =>
    refine (rect_emb_unit_val _ _ _ _ _).trans ?_
    show h + 0 = h % 2
    omega
  | ⟨1, _⟩ =>
    refine (rect_emb_unit_val _ _ _ _ _).trans ?_
    show 0 + (s + 8 * (x 0).val) = (s + 8 * (x 0).val) % 64
    omega
  | ⟨2, _⟩ =>
    refine (rect_emb_unit_val _ _ _ _ _).trans ?_
    show 0 + (0 + 1 * (x 1).val) = (x 1).val
    omega

/-- Stored at columns `1024*k + 128*j …`, group `j`'s codes are the block's. -/
theorem codesOut_piece (x1 : Vec F S256x256 .bf16) (x2 : Vec F S256x10240 .bf16) (k : Fin k0_t1_loop.trips) (j : Fin 8)
    (inb : ∀ a, k0_off3 k (BitVec.ofNat 32 j.val) a + S256x128.size a ≤ S256x5120.size a) (w : FVec F S256x128 .fp8e4m3)
    (hw : w = codeT x1 x2 k j) (x : S256x128.Idx) :
    w x = codesOut x1 x2 ((Rect.unit (s := S256x5120) (k0_off3 k (BitVec.ofNat 32 j.val)) S256x128.size inb).emb x) := by
  subst hw
  have hk := k.isLt; change k.val < 5 at hk
  have h1 := (x 1).isLt; change (x 1).val < 128 at h1
  have e0 : ((Rect.unit (s := S256x5120) (k0_off3 k (BitVec.ofNat 32 j.val)) S256x128.size inb).emb x 0 : ℕ) = (x 0).val := by
    exact (rect_emb_unit_val _ _ _ _ _).trans ((congrArg (· + (x 0).val) (congrFun (k0_off3_eq k j) 0)).trans (Nat.zero_add _))
  have e1 : ((Rect.unit (s := S256x5120) (k0_off3 k (BitVec.ofNat 32 j.val)) S256x128.size inb).emb x 1 : ℕ) = 1024 * k.val + 128 * j.val + (x 1).val := by
    exact (rect_emb_unit_val _ _ _ _ _).trans (congrArg (· + (x 1).val) (congrFun (k0_off3_eq k j) 1))
  unfold codesOut
  have ek : (⟨((Rect.unit (s := S256x5120) (k0_off3 k (BitVec.ofNat 32 j.val)) S256x128.size inb).emb x 1 : ℕ) / 1024, by
      rw [e1]; change _ < 5; omega⟩ : Fin k0_t1_loop.trips) = k := Fin.ext (by show _ / 1024 = _; rw [e1]; omega)
  have ej : (⟨((Rect.unit (s := S256x5120) (k0_off3 k (BitVec.ofNat 32 j.val)) S256x128.size inb).emb x 1 : ℕ) % 1024 / 128, by
      omega⟩ : Fin 8) = j := Fin.ext (by show _ % 1024 / 128 = _; rw [e1]; omega)
  rw [ek, ej]
  refine congrArg (codeT x1 x2 k j) ((eq_ix2 x).trans ?_)
  congr 1
  · exact Fin.ext e0.symm
  · exact Fin.ext (by show (x 1).val = _ % 128; rw [e1]; omega)

/-- Stored at rows `8*k …`, the trip's scales are the block's. -/
theorem scalesOut_piece (x1 : Vec F S256x256 .bf16) (x2 : Vec F S256x10240 .bf16) (k : Fin k0_t1_loop.trips)
    (inb : ∀ a, k0_off2 k a + S1x8x256.size a ≤ S1x40x256.size a) (w : FVec F S1x8x256 .f32)
    (hw : w = scT x1 x2 k) (x : S1x8x256.Idx) :
    w x = scalesOut x1 x2 ((Rect.unit (s := S1x40x256) (k0_off2 k) S1x8x256.size inb).emb x) := by
  subst hw
  have hk := k.isLt; change k.val < 5 at hk
  have h0 := (x 0).isLt; change (x 0).val < 1 at h0
  have h1 := (x 1).isLt; change (x 1).val < 8 at h1
  have e1 : ((Rect.unit (s := S1x40x256) (k0_off2 k) S1x8x256.size inb).emb x 1 : ℕ) = 8 * k.val + (x 1).val := by
    exact (rect_emb_unit_val _ _ _ _ _).trans (congrArg (· + (x 1).val) (congrFun (k0_off2_eq k) 1))
  have e2 : ((Rect.unit (s := S1x40x256) (k0_off2 k) S1x8x256.size inb).emb x 2 : ℕ) = (x 2).val := by
    exact (rect_emb_unit_val _ _ _ _ _).trans ((congrArg (· + (x 2).val) (congrFun (k0_off2_eq k) 2)).trans (Nat.zero_add _))
  unfold scalesOut
  have ek : (⟨((Rect.unit (s := S1x40x256) (k0_off2 k) S1x8x256.size inb).emb x 1 : ℕ) / 8, by
      rw [e1]; change _ < 5; omega⟩ : Fin k0_t1_loop.trips) = k := Fin.ext (by show _ / 8 = _; rw [e1]; omega)
  rw [ek]
  refine congrArg (scT x1 x2 k) ((eq_ix3 x).trans ?_)
  congr 1
  · exact Fin.ext (by show (x 0).val = 0; omega)
  · exact Fin.ext (by show (x 1).val = _ % 8; rw [e1]; omega)
  · exact Fin.ext e2.symm

end Cert.Proof.Kernel
-- ==== Proof.Agree.lean ====
/-
  The pieces one trip of the kernel's loop stores are those of `codesOut` and `scalesOut`.
-/
module

public import proofs.«01_k».proof.Proof.Pieces
public import Idealize.ShloMosaic.Lib.Claim
public import Idealize.ShloMosaic.Lib.Pipeline.ValueKit

@[expose] public section

set_option maxRecDepth 16384

noncomputable section

namespace Cert.Proof.Kernel

open Cert.Kernel Cert.Kernel.Gen
open Idealize.ShloMosaic hiding ix1 ix2 ix3 ix4 ix5 ix6 eq_ix1 eq_ix2 eq_ix3 eq_ix4
open Idealize.ShloMosaic.TcCoe Idealize.ShloMosaic.Tactic
open Idealize.SL Idealize.SL.RA Idealize.SL.BI
open scoped Idealize.SL.BI
open Idealize.ShloMosaic.ValueIdx Idealize.ShloMosaic.ValueKit
open Idealize.SL.BI.BIBase Idealize.SL.BI.Laws Idealize.SL.ProofMode Idealize.SL.Sem

variable {F : FTy → Type} [FloatOps F]

variable (c : Dev nD) (i : grid0.Coords)
  (arg1 : Memref sig .tc .vmem S256x256 .bf16) (harg1 : arg1.IsWhole)
  (arg2 : Memref sig .tc .vmem S256x10240 .bf16) (harg2 : arg2.IsWhole)
  (arg3 : Memref sig .tc .vmem S256x5120 .fp8e4m3) (harg3 : arg3.IsWhole)
  (arg4 : Memref sig .tc .vmem S1x40x256 .f32) (harg4 : arg4.IsWhole)
  (arg5 : Memref sig .tc .vmem S1024x256 .f32) (harg5 : arg5.IsWhole)
  (arg6 : Memref sig .tc .vmem S2x64x128 .f32) (harg6 : arg6.IsWhole)
  (arg7 : Memref sig .tc .vmem S8x256 .f32) (harg7 : arg7.IsWhole)

variable (f1 : BufTy.Contents (Elt F) arg1.view.ty) (f2 : BufTy.Contents (Elt F) arg2.view.ty) (k : Fin k0_t1_loop.trips)

/-! ## The scratch buffers of one trip -/

theorem y_agree : ∀ p ∈ trip.sl.H5_8 arg1 arg2 f1 f2 k, ∀ x, p.2 x = yArr (arg1.view.read (Elt F) f1) (arg2.view.read (Elt F) f2) k (p.1.emb x) := by
  dsimp only [trip.sl.H5_8, trip.sl.r, trip.sl.r_1, trip.sl.r_2, trip.sl.r_3, trip.sl.r_4, trip.sl.r_5, trip.sl.r_6, trip.sl.r_7, trip.sl.r_8, trip.sl.r_9, trip.sl.cst_65,
    k0_pay3, k0_pay4, k0_pay8, k0_pay9, k0_pay13, k0_pay14, k0_pay18, k0_pay19, k0_pay20, k0_pay24, k0_pay25, k0_pay26, k0_pay27, k0_pay28, k0_pay29, k0_pay33, k0_pay34, k0_pay38, k0_pay39, k0_pay44, k0_pay45]
  refine List.forall_mem_cons.2 ⟨?_, ?_⟩
  · intro x; exact yArr_piece (arg1.view.read (Elt F) f1) (arg2.view.read (Elt F) f2) k 7 896 rfl inb_S1024x256_S128x256_896_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 6 768 rfl inb_S1024x256_S128x256_768_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 5 640 rfl inb_S1024x256_S128x256_640_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 4 512 rfl inb_S1024x256_S128x256_512_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 3 384 rfl inb_S1024x256_S128x256_384_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 2 256 rfl inb_S1024x256_S128x256_256_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 1 128 rfl inb_S1024x256_S128x256_128_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 0 0 rfl inb_S1024x256_S128x256_0_0 _ (by
      dsimp only [mT, yT, sel, blk, k0_pay3, k0_pay5]; rfl) x
  exact fun _ h => absurd h List.not_mem_nil

theorem y_canon (y : S1024x256.Idx) : View.canon (trip.sl.H5_8 arg1 arg2 f1 f2 k) y = yArr (arg1.view.read (Elt F) f1) (arg2.view.read (Elt F) f2) k y :=
  View.canon_apply_of_pieces _ _ (y_agree arg1 arg2 f1 f2 k) y
    (View.cover_of_tiled (trip.sl.H5_8 arg1 arg2 f1 f2 k) S128x256.size (by rfl) y)

theorem m_agree : ∀ p ∈ trip.sl.H6_16 arg1 arg2 f1 f2 k, ∀ x, p.2 x = mArr (arg1.view.read (Elt F) f1) (arg2.view.read (Elt F) f2) k (p.1.emb x) := by
  dsimp only [trip.sl.H6_16, trip.sl.r, trip.sl.r_1, trip.sl.r_2, trip.sl.r_3, trip.sl.r_4, trip.sl.r_5, trip.sl.r_6, trip.sl.r_7, trip.sl.r_8, trip.sl.r_9, trip.sl.cst_65,
    k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49]
  refine List.forall_mem_cons.2 ⟨?_, ?_⟩
  · intro x; exact mArr_piece (arg1.view.read (Elt F) f1) (arg2.view.read (Elt F) f2) k 7 1 56 128 rfl rfl inb_S2x64x128_S1x8x128_1_56_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 7 0 56 0 rfl rfl inb_S2x64x128_S1x8x128_0_56_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 6 1 48 128 rfl rfl inb_S2x64x128_S1x8x128_1_48_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 6 0 48 0 rfl rfl inb_S2x64x128_S1x8x128_0_48_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 5 1 40 128 rfl rfl inb_S2x64x128_S1x8x128_1_40_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 5 0 40 0 rfl rfl inb_S2x64x128_S1x8x128_0_40_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 4 1 32 128 rfl rfl inb_S2x64x128_S1x8x128_1_32_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 4 0 32 0 rfl rfl inb_S2x64x128_S1x8x128_0_32_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 3 1 24 128 rfl rfl inb_S2x64x128_S1x8x128_1_24_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 3 0 24 0 rfl rfl inb_S2x64x128_S1x8x128_0_24_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 2 1 16 128 rfl rfl inb_S2x64x128_S1x8x128_1_16_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 2 0 16 0 rfl rfl inb_S2x64x128_S1x8x128_0_16_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 1 1 8 128 rfl rfl inb_S2x64x128_S1x8x128_1_8_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 1 0 8 0 rfl rfl inb_S2x64x128_S1x8x128_0_8_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 0 1 0 128 rfl rfl inb_S2x64x128_S1x8x128_1_0_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 0 0 0 0 rfl rfl inb_S2x64x128_S1x8x128_0_0_0 slices_S8x256_o0_0_S8x128 _ (by
      dsimp only [mT, yT, sel, blk, k0_pay3, k0_pay5]; rfl) x
  exact fun _ h => absurd h List.not_mem_nil

theorem m_canon (y : S2x64x128.Idx) : View.canon (trip.sl.H6_16 arg1 arg2 f1 f2 k) y = mArr (arg1.view.read (Elt F) f1) (arg2.view.read (Elt F) f2) k y :=
  View.canon_apply_of_pieces _ _ (m_agree arg1 arg2 f1 f2 k) y
    (View.cover_of_tiled (trip.sl.H6_16 arg1 arg2 f1 f2 k) S1x8x128.size (by rfl) y)

theorem congr₄ {α β γ : Type} (f : β → α → α → α → γ) {b b' : β} {x1 y1 x2 y2 x3 y3 : α} (h : b = b') (h1 : x1 = y1) (h2 : x2 = y2)
    (h3 : x3 = y3) : f b x1 x2 x3 = f b' y1 y2 y3 := by rw [h, h1, h2, h3]

theorem congr₅ {α γ : Type} (f : α → α → α → α → α → γ) {x1 y1 x2 y2 x3 y3 x4 y4 x5 y5 : α} (h1 : x1 = y1) (h2 : x2 = y2)
    (h3 : x3 = y3) (h4 : x4 = y4) (h5 : x5 = y5) : f x1 x2 x3 x4 x5 = f y1 y2 y3 y4 y5 := by rw [h1, h2, h3, h4, h5]

theorem congr₆ {α β δ γ : Type} (f : β → δ → α → α → α → α → γ) {b b' : β} {d d' : δ} {x1 y1 x2 y2 x3 y3 x4 y4 : α} (h : b = b') (h' : d = d')
    (h1 : x1 = y1) (h2 : x2 = y2) (h3 : x3 = y3) (h4 : x4 = y4) : f b d x1 x2 x3 x4 = f b' d' y1 y2 y3 y4 := by
  rw [h, h', h1, h2, h3, h4]

theorem a_eq : trip.sl.r_13 arg1 arg2 arg6 f1 f2 k = aArr (arg1.view.read (Elt F) f1) (arg2.view.read (Elt F) f2) k := by
  unfold trip.sl.r_13 trip.sl.r_12 trip.sl.r_11 trip.sl.r_10 aArr
  refine congr₆ _ (congr₄ _ (congr₅ _ ?_ ?_ ?_ ?_ ?_) ?_ ?_ ?_) (congr₄ _ ?_ ?_ ?_ ?_) ?_ ?_ ?_ ?_
  all_goals exact mRow_of_read (arg1.view.read (Elt F) f1) (arg2.view.read (Elt F) f2) k arg6.view _ (m_canon arg1 arg2 f1 f2 k) _ _ _ _ _ _ _ _

theorem e_eq : trip.sl.r_14 arg1 arg2 arg6 f1 f2 k = eArr (arg1.view.read (Elt F) f1) (arg2.view.read (Elt F) f2) k := by
  unfold trip.sl.r_14 trip.sl.r_12 trip.sl.r_11 trip.sl.r_10 eArr
  refine congr₆ _ (congr₄ _ (congr₅ _ ?_ ?_ ?_ ?_ ?_) ?_ ?_ ?_) (congr₄ _ ?_ ?_ ?_ ?_) ?_ ?_ ?_ ?_
  all_goals exact mRow_of_read (arg1.view.read (Elt F) f1) (arg2.view.read (Elt F) f2) k arg6.view _ (m_canon arg1 arg2 f1 f2 k) _ _ _ _ _ _ _ _

theorem inv_eq : trip.sl.r_15 arg1 arg2 arg6 f1 f2 k = invT (arg1.view.read (Elt F) f1) (arg2.view.read (Elt F) f2) k := by
  unfold trip.sl.r_15 invT
  rw [a_eq, e_eq]

/-! ## What the trip reads back, and stores in the output blocks -/

theorem y_read (j : Fin 8) (n : ℕ) (hn : n = 128 * j.val) (inb : ∀ a, (![n, 0] : Fin 2 → ℕ) a + S128x256.size a ≤ S1024x256.size a) :
    (arg5.view.readCov (trip.sl.H5_8 arg1 arg2 f1 f2 k) (Rect.unit (s := S1024x256) ![n, 0] S128x256.size inb).toLoadRect : Vec F S128x256 .f32)
      = yT (arg1.view.read (Elt F) f1) (arg2.view.read (Elt F) f2) k j := by
  rw [View.readCov_eq_canon']
  funext x
  refine (y_canon arg1 arg2 f1 f2 k _).trans ?_
  exact (yArr_piece _ _ k j n hn inb _ (shapeCast_self _ shapeCasts_S128x256_S128x256).symm x).symm

theorem inv_canon (y : S8x256.Idx) : View.canon (trip.sl.H7_1 arg1 arg2 arg6 f1 f2 k) y = invT (arg1.view.read (Elt F) f1) (arg2.view.read (Elt F) f2) k y := by
  refine View.canon_apply_of_pieces _ _ ?_ y (View.cover_of_tiled (trip.sl.H7_1 arg1 arg2 arg6 f1 f2 k) S8x256.size (by rfl) y)
  unfold trip.sl.H7_1
  refine List.forall_mem_cons.2 ⟨?_, fun _ h => absurd h List.not_mem_nil⟩
  intro x
  show k0_pay59 (trip.sl.r_15 arg1 arg2 arg6 f1 f2 k) x = _
  rw [inv_eq]
  unfold k0_pay59
  dsimp only
  rw [shapeCast_self]
  refine congrArg _ (funext fun a => Fin.ext ?_)
  refine Eq.trans ?_ (rect_emb_unit_val _ _ _ _ _).symm
  match a with
  | ⟨0, _⟩ => exact (Nat.zero_add _).symm
  | ⟨1, _⟩ => exact (Nat.zero_add _).symm

theorem inv_read (j : Fin 8) (n : ℕ) (hn : n = j.val) (inb : ∀ a, (![n, 0] : Fin 2 → ℕ) a + S1x256.size a ≤ S8x256.size a) :
    (arg7.view.readCov (trip.sl.H7_1 arg1 arg2 arg6 f1 f2 k) (Rect.unit (s := S8x256) ![n, 0] S1x256.size inb).toLoadRect : Vec F S1x256 .f32)
      = fun x => invT (arg1.view.read (Elt F) f1) (arg2.view.read (Elt F) f2) k (ix2 j (x 1 : Fin 256)) := by
  subst hn
  rw [View.readCov_eq_canon']
  funext x
  refine (inv_canon arg1 arg2 arg6 f1 f2 k _).trans (congrArg _ (funext fun a => Fin.ext ?_))
  have h0 := (x 0).isLt; change (x 0).val < 1 at h0
  refine (rect_emb_unit_val _ _ _ _ _).trans ?_
  match a with
  | ⟨0, _⟩ => show j.val + (x 0).val = j.val; omega
  | ⟨1, _⟩ => exact Nat.zero_add _

theorem codeT_eq (x1 : Vec F S256x256 .bf16) (x2 : Vec F S256x10240 .bf16) (j : Fin 8) (a : Vec F S128x256 .f32) (b : Vec F S1x256 .f32)
    (ha : a = yT x1 x2 k j) (hb : b = fun x => invT x1 x2 k (ix2 j (x 1 : Fin 256))) : k0_pay60 a b = codeT x1 x2 k j := by
  rw [ha, hb]; rfl

theorem codes_agree : ∀ p ∈ (trip (F := F) c i arg1 harg1 arg2 harg2 arg3 harg3 arg4 harg4 arg5 harg5 arg6 harg6 arg7 harg7 f1 f2 k).1.1,
    ∀ x, p.2 x = codesOut (arg1.view.read (Elt F) f1) (arg2.view.read (Elt F) f2) (p.1.emb x) := by
  unfold trip
  dsimp only
  refine List.forall_mem_cons.2 ⟨?_, ?_⟩
  · intro x
    refine codesOut_piece (arg1.view.read (Elt F) f1) (arg2.view.read (Elt F) f2) k 7 (k0_off3_inb k 7) _ (Eq.trans ?_ (codeT_eq k _ _ 7 _ _
      (y_read arg1 arg2 arg5 f1 f2 k 7 896 rfl inb_S1024x256_S128x256_896_0)
      (inv_read arg1 arg2 arg6 arg7 f1 f2 k 7 7 rfl inb_S8x256_S1x256_7_0))) x
    dsimp only [k0_pay2, trip.sl.v508, trip.sl.v509, k0_pay60]
  refine List.forall_mem_cons.2 ⟨?_, ?_⟩
  · intro x
    refine codesOut_piece (arg1.view.read (Elt F) f1) (arg2.view.read (Elt F) f2) k 6 (k0_off3_inb k 6) _ (Eq.trans ?_ (codeT_eq k _ _ 6 _ _
      (y_read arg1 arg2 arg5 f1 f2 k 6 768 rfl inb_S1024x256_S128x256_768_0)
      (inv_read arg1 arg2 arg6 arg7 f1 f2 k 6 6 rfl inb_S8x256_S1x256_6_0))) x
    dsimp only [trip.sl.r_17, k0_pay1, k0_pay67, trip.sl.v492, trip.sl.v493, k0_pay60]
  refine List.forall_mem_cons.2 ⟨?_, ?_⟩
  · intro x
    refine codesOut_piece (arg1.view.read (Elt F) f1) (arg2.view.read (Elt F) f2) k 5 (k0_off3_inb k 5) _ (Eq.trans ?_ (codeT_eq k _ _ 5 _ _
      (y_read arg1 arg2 arg5 f1 f2 k 5 640 rfl inb_S1024x256_S128x256_640_0)
      (inv_read arg1 arg2 arg6 arg7 f1 f2 k 5 5 rfl inb_S8x256_S1x256_5_0))) x
    dsimp only [k0_pay66, trip.sl.v476, trip.sl.v477, k0_pay60]
  refine List.forall_mem_cons.2 ⟨?_, ?_⟩
  · intro x
    refine codesOut_piece (arg1.view.read (Elt F) f1) (arg2.view.read (Elt F) f2) k 4 (k0_off3_inb k 4) _ (Eq.trans ?_ (codeT_eq k _ _ 4 _ _
      (y_read arg1 arg2 arg5 f1 f2 k 4 512 rfl inb_S1024x256_S128x256_512_0)
      (inv_read arg1 arg2 arg6 arg7 f1 f2 k 4 4 rfl inb_S8x256_S1x256_4_0))) x
    dsimp only [trip.sl.r_16, trip.sl.cst_243, trip.sl.cst_244, k0_pay64, k0_pay65, trip.sl.v460, trip.sl.v461, k0_pay60]
  refine List.forall_mem_cons.2 ⟨?_, ?_⟩
  · intro x
    refine codesOut_piece (arg1.view.read (Elt F) f1) (arg2.view.read (Elt F) f2) k 3 (k0_off3_inb k 3) _ (Eq.trans ?_ (codeT_eq k _ _ 3 _ _
      (y_read arg1 arg2 arg5 f1 f2 k 3 384 rfl inb_S1024x256_S128x256_384_0)
      (inv_read arg1 arg2 arg6 arg7 f1 f2 k 3 3 rfl inb_S8x256_S1x256_3_0))) x
    dsimp only [k0_pay63, trip.sl.v444, trip.sl.v445, k0_pay60]
  refine List.forall_mem_cons.2 ⟨?_, ?_⟩
  · intro x
    refine codesOut_piece (arg1.view.read (Elt F) f1) (arg2.view.read (Elt F) f2) k 2 (k0_off3_inb k 2) _ (Eq.trans ?_ (codeT_eq k _ _ 2 _ _
      (y_read arg1 arg2 arg5 f1 f2 k 2 256 rfl inb_S1024x256_S128x256_256_0)
      (inv_read arg1 arg2 arg6 arg7 f1 f2 k 2 2 rfl inb_S8x256_S1x256_2_0))) x
    dsimp only [k0_pay62, trip.sl.v428, trip.sl.v429, k0_pay60]
  refine List.forall_mem_cons.2 ⟨?_, ?_⟩
  · intro x
    refine codesOut_piece (arg1.view.read (Elt F) f1) (arg2.view.read (Elt F) f2) k 1 (k0_off3_inb k 1) _ (Eq.trans ?_ (codeT_eq k _ _ 1 _ _
      (y_read arg1 arg2 arg5 f1 f2 k 1 128 rfl inb_S1024x256_S128x256_128_0)
      (inv_read arg1 arg2 arg6 arg7 f1 f2 k 1 1 rfl inb_S8x256_S1x256_1_0))) x
    dsimp only [k0_pay61, trip.sl.v412, trip.sl.v413, k0_pay60]
  refine List.forall_mem_cons.2 ⟨?_, ?_⟩
  · intro x
    refine codesOut_piece (arg1.view.read (Elt F) f1) (arg2.view.read (Elt F) f2) k 0 (k0_off3_inb k 0) _ (Eq.trans ?_ (codeT_eq k _ _ 0 _ _
      (y_read arg1 arg2 arg5 f1 f2 k 0 0 rfl inb_S1024x256_S128x256_0_0)
      (inv_read arg1 arg2 arg6 arg7 f1 f2 k 0 0 rfl inb_S8x256_S1x256_0_0))) x
    dsimp only [trip.sl.v396, trip.sl.v397, k0_pay60]
  exact fun _ h => absurd h List.not_mem_nil

theorem scales_agree : ∀ p ∈ (trip (F := F) c i arg1 harg1 arg2 harg2 arg3 harg3 arg4 harg4 arg5 harg5 arg6 harg6 arg7 harg7 f1 f2 k).1.2,
    ∀ x, p.2 x = scalesOut (arg1.view.read (Elt F) f1) (arg2.view.read (Elt F) f2) (p.1.emb x) := by
  unfold trip
  dsimp only
  refine List.forall_mem_cons.2 ⟨?_, fun _ h => absurd h List.not_mem_nil⟩
  intro x
  refine scalesOut_piece _ _ k (k0_off2_inb k) (k0_pay57 _ _ _) ?_ x
  rw [a_eq, e_eq]
  rfl

end Cert.Proof.Kernel
-- ==== Proof.Body.lean ====
/-
  The kernel's body: what its loop leaves in the output blocks, and its triple.
-/
module

public import proofs.«01_k».proof.Proof.Agree
public import Idealize.ShloMosaic.Lib.Claim
public import Idealize.ShloMosaic.Lib.Pipeline.ValueKit

@[expose] public section

set_option maxRecDepth 16384

noncomputable section

namespace Cert.Proof.Kernel

open Cert.Kernel Cert.Kernel.Gen
open Idealize.ShloMosaic hiding ix1 ix2 ix3 ix4 ix5 ix6 eq_ix1 eq_ix2 eq_ix3 eq_ix4
open Idealize.ShloMosaic.TcCoe Idealize.ShloMosaic.Tactic
open Idealize.SL Idealize.SL.RA Idealize.SL.BI
open scoped Idealize.SL.BI
open Idealize.ShloMosaic.ValueIdx Idealize.ShloMosaic.ValueKit
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Pieces

variable (c : Dev nD) (i : grid0.Coords)
  (arg1 : Memref sig .tc .vmem S256x256 .bf16) (harg1 : arg1.IsWhole)
  (arg2 : Memref sig .tc .vmem S256x10240 .bf16) (harg2 : arg2.IsWhole)
  (arg3 : Memref sig .tc .vmem S256x5120 .fp8e4m3) (harg3 : arg3.IsWhole)
  (arg4 : Memref sig .tc .vmem S1x40x256 .f32) (harg4 : arg4.IsWhole)
  (arg5 : Memref sig .tc .vmem S1024x256 .f32) (harg5 : arg5.IsWhole)
  (arg6 : Memref sig .tc .vmem S2x64x128 .f32) (harg6 : arg6.IsWhole)
  (arg7 : Memref sig .tc .vmem S8x256 .f32) (harg7 : arg7.IsWhole)

variable (f1 : BufTy.Contents (Elt F) arg1.view.ty) (f2 : BufTy.Contents (Elt F) arg2.view.ty)

/-! ## The pieces of all the trips -/

/-- Each of the eight groups' codes is among a trip's pieces. -/
theorem trip_codes_mem (k : Fin k0_t1_loop.trips) (j : Fin 8) :
    ∃ p ∈ (trip (F := F) c i arg1 harg1 arg2 harg2 arg3 harg3 arg4 harg4 arg5 harg5 arg6 harg6 arg7 harg7 f1 f2 k).1.1, p.1 = Rect.unit (s := S256x5120) (k0_off3 k (BitVec.ofNat 32 j.val)) S256x128.size (k0_off3_inb k j) := by
  unfold trip
  match j with
  | ⟨0, _⟩ => exact ⟨_, List.mem_of_getElem? (i := 7) rfl, rfl⟩
  | ⟨1, _⟩ => exact ⟨_, List.mem_of_getElem? (i := 6) rfl, rfl⟩
  | ⟨2, _⟩ => exact ⟨_, List.mem_of_getElem? (i := 5) rfl, rfl⟩
  | ⟨3, _⟩ => exact ⟨_, List.mem_of_getElem? (i := 4) rfl, rfl⟩
  | ⟨4, _⟩ => exact ⟨_, List.mem_of_getElem? (i := 3) rfl, rfl⟩
  | ⟨5, _⟩ => exact ⟨_, List.mem_of_getElem? (i := 2) rfl, rfl⟩
  | ⟨6, _⟩ => exact ⟨_, List.mem_of_getElem? (i := 1) rfl, rfl⟩
  | ⟨7, _⟩ => exact ⟨_, List.mem_of_getElem? (i := 0) rfl, rfl⟩

/-- A trip's pieces hold every column of its band of the codes' block. -/
theorem trip_codes_cover (k : Fin k0_t1_loop.trips) (y : S256x5120.Idx) (h : 1024 * k.val ≤ (y 1).val) (h' : (y 1).val < 1024 * (k.val + 1)) :
    ∃ p ∈ (trip (F := F) c i arg1 harg1 arg2 harg2 arg3 harg3 arg4 harg4 arg5 harg5 arg6 harg6 arg7 harg7 f1 f2 k).1.1, y ∈ p.1.set := by
  have h0 := (y 0).isLt; change (y 0).val < 256 at h0
  obtain ⟨p, hp, e⟩ := trip_codes_mem (F := F) c i arg1 harg1 arg2 harg2 arg3 harg3 arg4 harg4 arg5 harg5 arg6 harg6 arg7 harg7 f1 f2 k ⟨((y 1).val - 1024 * k.val) / 128, by omega⟩
  refine ⟨p, hp, ?_⟩
  rw [e, Rect.mem_set_unit]
  intro a
  have e := congrFun (k0_off3_eq k ⟨((y 1).val - 1024 * k.val) / 128, by omega⟩) a
  rw [e]
  match a with
  | ⟨0, _⟩ => exact ⟨Nat.zero_le _, by show (y 0).val < 0 + 256; omega⟩
  | ⟨1, _⟩ =>
    constructor
    · show 1024 * k.val + 128 * (((y 1).val - 1024 * k.val) / 128) ≤ (y 1).val; omega
    · show (y 1).val < 1024 * k.val + 128 * (((y 1).val - 1024 * k.val) / 128) + 128; omega

/-- A trip's piece holds every row of its band of the scales' block. -/
theorem trip_scales_cover (k : Fin k0_t1_loop.trips) (y : S1x40x256.Idx) (h : 8 * k.val ≤ (y 1).val) (h' : (y 1).val < 8 * (k.val + 1)) :
    ∃ p ∈ (trip (F := F) c i arg1 harg1 arg2 harg2 arg3 harg3 arg4 harg4 arg5 harg5 arg6 harg6 arg7 harg7 f1 f2 k).1.2, y ∈ p.1.set := by
  have h0 := (y 0).isLt; change (y 0).val < 1 at h0
  have h2 := (y 2).isLt; change (y 2).val < 256 at h2
  unfold trip
  refine ⟨_, List.mem_cons_self, ?_⟩
  refine (Rect.mem_set_unit (s := S1x40x256) (inb := k0_off2_inb k)).2 fun a => ?_
  rw [congrFun (k0_off2_eq k) a]
  match a with
  | ⟨0, _⟩ => exact ⟨Nat.zero_le _, by show (y 0).val < 0 + 1; omega⟩
  | ⟨1, _⟩ => exact ⟨h, by show (y 1).val < 8 * k.val + 8; omega⟩
  | ⟨2, _⟩ => exact ⟨Nat.zero_le _, by show (y 2).val < 0 + 256; omega⟩

/-- Before trip `n` the pieces stored agree with the blocks, and hold the bands of the trips before. -/
theorem pb_spec (n : ℕ) (hn : n ≤ 5) :
    (∀ p ∈ (pb (F := F) c i arg1 harg1 arg2 harg2 arg3 harg3 arg4 harg4 arg5 harg5 arg6 harg6 arg7 harg7 f1 f2 n).1, ∀ x, p.2 x = codesOut (arg1.view.read (Elt F) f1) (arg2.view.read (Elt F) f2) (p.1.emb x))
    ∧ (∀ p ∈ (pb (F := F) c i arg1 harg1 arg2 harg2 arg3 harg3 arg4 harg4 arg5 harg5 arg6 harg6 arg7 harg7 f1 f2 n).2, ∀ x, p.2 x = scalesOut (arg1.view.read (Elt F) f1) (arg2.view.read (Elt F) f2) (p.1.emb x))
    ∧ (∀ y : S256x5120.Idx, (y 1).val < 1024 * n → ∃ p ∈ (pb (F := F) c i arg1 harg1 arg2 harg2 arg3 harg3 arg4 harg4 arg5 harg5 arg6 harg6 arg7 harg7 f1 f2 n).1, y ∈ p.1.set)
    ∧ (∀ y : S1x40x256.Idx, (y 1).val < 8 * n → ∃ p ∈ (pb (F := F) c i arg1 harg1 arg2 harg2 arg3 harg3 arg4 harg4 arg5 harg5 arg6 harg6 arg7 harg7 f1 f2 n).2, y ∈ p.1.set) := by
  induction n with
  | zero =>
    refine ⟨fun p h => absurd h List.not_mem_nil, fun p h => absurd h List.not_mem_nil, fun y h => absurd h (by omega), fun y h => absurd h (by omega)⟩
  | succ n ih =>
    obtain ⟨a, b, d, e⟩ := ih (by omega)
    have hs := pb_succ (F := F) c i arg1 harg1 arg2 harg2 arg3 harg3 arg4 harg4 arg5 harg5 arg6 harg6 arg7 harg7 f1 f2 (⟨n, by change n < 5; omega⟩ : Fin k0_t1_loop.trips)
    simp only at hs
    rw [hs]
    dsimp only
    refine ⟨fun p h => ?_, fun p h => ?_, fun y h => ?_, fun y h => ?_⟩
    · rcases List.mem_append.1 h with h | h
      · exact codes_agree (F := F) c i arg1 harg1 arg2 harg2 arg3 harg3 arg4 harg4 arg5 harg5 arg6 harg6 arg7 harg7 f1 f2 _ p h
      · exact a p h
    · rcases List.mem_append.1 h with h | h
      · exact scales_agree (F := F) c i arg1 harg1 arg2 harg2 arg3 harg3 arg4 harg4 arg5 harg5 arg6 harg6 arg7 harg7 f1 f2 _ p h
      · exact b p h
    · by_cases hy : (y 1).val < 1024 * n
      · obtain ⟨p, hp, h⟩ := d y hy
        exact ⟨p, List.mem_append_right _ hp, h⟩
      · obtain ⟨p, hp, h⟩ := trip_codes_cover (F := F) c i arg1 harg1 arg2 harg2 arg3 harg3 arg4 harg4 arg5 harg5 arg6 harg6 arg7 harg7 f1 f2 ⟨n, by change n < 5; omega⟩ y (by show 1024 * n ≤ _; omega) h
        exact ⟨p, List.mem_append_left _ hp, h⟩
    · by_cases hy : (y 1).val < 8 * n
      · obtain ⟨p, hp, h⟩ := e y hy
        exact ⟨p, List.mem_append_right _ hp, h⟩
      · obtain ⟨p, hp, h⟩ := trip_scales_cover (F := F) c i arg1 harg1 arg2 harg2 arg3 harg3 arg4 harg4 arg5 harg5 arg6 harg6 arg7 harg7 f1 f2 ⟨n, by change n < 5; omega⟩ y (by show 8 * n ≤ _; omega) h
        exact ⟨p, List.mem_append_left _ hp, h⟩

/-- After all the trips the codes' block reads `codesOut`, whatever it held. -/
theorem read_codes (g : BufTy.Contents (Elt F) arg3.view.ty) :
    arg3.view.read (Elt F) (arg3.view.writes (Elt F) g (pb (F := F) c i arg1 harg1 arg2 harg2 arg3 harg3 arg4 harg4 arg5 harg5 arg6 harg6 arg7 harg7 f1 f2 5).1)
      = codesOut (arg1.view.read (Elt F) f1) (arg2.view.read (Elt F) f2) := by
  obtain ⟨a, -, d, -⟩ := pb_spec (F := F) c i arg1 harg1 arg2 harg2 arg3 harg3 arg4 harg4 arg5 harg5 arg6 harg6 arg7 harg7 f1 f2 5 le_rfl
  have d' : ∀ y : S256x5120.Idx, ∃ p ∈ (pb (F := F) c i arg1 harg1 arg2 harg2 arg3 harg3 arg4 harg4 arg5 harg5 arg6 harg6 arg7 harg7 f1 f2 5).1, y ∈ p.1.set := fun y => d y (y 1).isLt
  rw [View.read_writes_eq_canon _ _ _ d']
  exact funext fun y => View.canon_apply_of_pieces _ _ a y (d' y)

/-- After all the trips the scales' block reads `scalesOut`, whatever it held. -/
theorem read_scales (g : BufTy.Contents (Elt F) arg4.view.ty) :
    arg4.view.read (Elt F) (arg4.view.writes (Elt F) g (pb (F := F) c i arg1 harg1 arg2 harg2 arg3 harg3 arg4 harg4 arg5 harg5 arg6 harg6 arg7 harg7 f1 f2 5).2)
      = scalesOut (arg1.view.read (Elt F) f1) (arg2.view.read (Elt F) f2) := by
  obtain ⟨-, b, -, e⟩ := pb_spec (F := F) c i arg1 harg1 arg2 harg2 arg3 harg3 arg4 harg4 arg5 harg5 arg6 harg6 arg7 harg7 f1 f2 5 le_rfl
  have e' : ∀ y : S1x40x256.Idx, ∃ p ∈ (pb (F := F) c i arg1 harg1 arg2 harg2 arg3 harg3 arg4 harg4 arg5 harg5 arg6 harg6 arg7 harg7 f1 f2 5).2, y ∈ p.1.set := fun y => e y (y 1).isLt
  rw [View.read_writes_eq_canon _ _ _ e']
  exact funext fun y => View.canon_apply_of_pieces _ _ b y (e' y)

end Pieces

/-! ## The body's triple -/

/-- The body, from the inputs' blocks at `x1`, `x2` and the other buffers at anything: the inputs' stay, the outputs' end at
    `codesOut` and `scalesOut` of them, the scratches at something. -/
theorem sound_kernel (c : Dev nD) (i : grid0.Coords)
    (arg1 : Memref sig .tc .vmem S256x256 .bf16) (harg1 : arg1.IsWhole) (arg2 : Memref sig .tc .vmem S256x10240 .bf16) (harg2 : arg2.IsWhole)
    (arg3 : Memref sig .tc .vmem S256x5120 .fp8e4m3) (harg3 : arg3.IsWhole) (arg4 : Memref sig .tc .vmem S1x40x256 .f32) (harg4 : arg4.IsWhole)
    (arg5 : Memref sig .tc .vmem S1024x256 .f32) (harg5 : arg5.IsWhole) (arg6 : Memref sig .tc .vmem S2x64x128 .f32) (harg6 : arg6.IsWhole)
    (arg7 : Memref sig .tc .vmem S8x256 .f32) (harg7 : arg7.IsWhole)
    (x1 : Vec F S256x256 .bf16) (x2 : Vec F S256x10240 .bf16) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2
            ∗ owns (c : Thread nD τ) arg3 fullShare (codesOut x1 x2) ∗ owns (c : Thread nD τ) arg4 fullShare (scalesOut x1 x2)
            ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) Set.univ
          (cc0_swiglu_fp8_quant i arg1 harg1 arg2 harg2 arg3 harg3 arg4 harg4 arg5 harg5 arg6 harg6 arg7 harg7) K := by
  simp only [cc0_swiglu_fp8_quant_eq_skeleton]; unfold cc0_swiglu_fp8_quant_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf1 hf2
  sl_exec
  sl_step
  iapply Hk
  isplitl [H1]
  · iexists f1
    isplitr [H1]
    · ipureintro; rfl
    · iexact H1
  isplitl [H2]
  · iexists f2
    isplitr [H2]
    · ipureintro; rfl
    · iexact H2
  isplitl [H3]
  · iexists _
    isplitr
    swap; · iexact H3
    ipureintro; exact read_codes (F := F) c i arg1 harg1 arg2 harg2 arg3 harg3 arg4 harg4 arg5 harg5 arg6 harg6 arg7 harg7 f1 f2 f3
  isplitl [H4]
  · iexists _
    isplitr
    swap; · iexact H4
    ipureintro; exact read_scales (F := F) c i arg1 harg1 arg2 harg2 arg3 harg3 arg4 harg4 arg5 harg5 arg6 harg6 arg7 harg7 f1 f2 f4
  isplitl [H5]
  · iexists _, _
    isplitr
    swap; · iexact H5
    ipureintro; rfl
  isplitl [H6]
  · iexists _, _
    isplitr
    swap; · iexact H6
    ipureintro; rfl
  iexists _, _
  isplitr
  swap; · iexact H7
  ipureintro; rfl

end Cert.Proof.Kernel
-- ==== Proof.Run.lean ====
/-
  The run of the kernel's program: the pipeline's proof data, its body's obligation, the launch and the frame.
-/
module

public import proofs.«01_k».proof.Proof.Body
public import Idealize.ShloMosaic.Lib.Claim
public import Idealize.ShloMosaic.Lib.Pipeline.ValueKit

@[expose] public section

set_option maxRecDepth 16384

noncomputable section

namespace Cert.Proof.Kernel

open Cert.Kernel Cert.Kernel.Gen
open Idealize.ShloMosaic hiding ix1 ix2 ix3 ix4 ix5 ix6 eq_ix1 eq_ix2 eq_ix3 eq_ix4
open Idealize.ShloMosaic.TcCoe Idealize.ShloMosaic.Tactic
open Idealize.SL Idealize.SL.RA Idealize.SL.BI
open scoped Idealize.SL.BI
open Idealize.ShloMosaic.ValueIdx Idealize.ShloMosaic.ValueKit
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers -/

/-- A whole buffer held at some contents is its whole memref owned at some value, -/
theorem whole_owns (c : Dev nD) {s : Space} {S : Shape} {e : EltTy} (a : Memref sig .tc s S e) (hset : a.view.set = Finset.univ) :
    (iprop(∃ f : Buf (Elt F) (a.view.loc (c : Thread nD τ)), (a.view.loc (c : Thread nD τ)) ↦{fullShare} f) : sProp 𝕄)
      ⊢ iprop(∃ d, owns (c : Thread nD τ) a fullShare d) := by
  unfold owns
  rw [hset]
  iintro ⟨%f, H⟩
  iexists _, f
  isplitr
  swap; · iexact H
  ipureintro; rfl

/-- and the other way. -/
theorem owns_whole (c : Dev nD) {s : Space} {S : Shape} {e : EltTy} (a : Memref sig .tc s S e) (hset : a.view.set = Finset.univ) :
    (iprop(∃ d, owns (c : Thread nD τ) a fullShare d) : sProp 𝕄)
      ⊢ iprop(∃ f : Buf (Elt F) (a.view.loc (c : Thread nD τ)), (a.view.loc (c : Thread nD τ)) ↦{fullShare} f) := by
  unfold owns
  rw [hset]
  iintro ⟨%d, %f, -, H⟩
  iexists f
  iexact H

/-- The three scratches, owned at something. -/
def scr (c : Dev nD) : sProp 𝕄 :=
  iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d))

theorem scr_of_rest (c : Dev nD) : (Pipeline.scopedRest (Ix := Unit) (Name := ℕ) (U := UR sig nD τ) (Lvl := ℕ) (Val := Elt F) spec0 c : sProp 𝕄) ⊢ scr c := by
  rw [scopedRest0_eq]; unfold scr
  iintro ⟨H0, H1, H2⟩
  isplitl [H0]
  · iapply (whole_owns (F := F) c (Memref.whole cc0_scratch0) (View.set_whole _)); iexact H0
  isplitl [H1]
  · iapply (whole_owns (F := F) c (Memref.whole cc0_scratch1) (View.set_whole _)); iexact H1
  iapply (whole_owns (F := F) c (Memref.whole cc0_scratch2) (View.set_whole _)); iexact H2

theorem rest_of_scr (c : Dev nD) : scr c ⊢ (Pipeline.scopedRest (Ix := Unit) (Name := ℕ) (U := UR sig nD τ) (Lvl := ℕ) (Val := Elt F) spec0 c : sProp 𝕄) := by
  rw [scopedRest0_eq]; unfold scr
  iintro ⟨H0, H1, H2⟩
  isplitl [H0]
  · iapply (owns_whole (F := F) c (Memref.whole cc0_scratch0) (View.set_whole _)); iexact H0
  isplitl [H1]
  · iapply (owns_whole (F := F) c (Memref.whole cc0_scratch1) (View.set_whole _)); iexact H1
  iapply (owns_whole (F := F) c (Memref.whole cc0_scratch2) (View.set_whole _)); iexact H2

/-! ## The pipeline's proof data -/

/-- The proof data of the one pipeline on core `c`: the arrays as the region finds them; after the body at point `t` each input's
    buffer at its block, the codes' at `codesOut` and the scales' at `scalesOut` of the input blocks; the scratches and the
    generator register at anything between the points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codesOut (iblk m c 0 t) (iblk m c 1 t)
    | ⟨3, _⟩ => scalesOut (iblk m c 0 t) (iblk m c 1 t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = codesOut (iblk m c 0 t) (iblk m c 1 t) := by dsimp only [dats]
theorem after0_3 (c : Dev nD) (t : Fin cfg0.N) : (dats m 0 c).after 3 t = scalesOut (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies, the scratches taken from the
    invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3]
  unfold Pipeline.ΦA
  iintro ⟨⟨HR, Hp⟩, Ho, ⟨%d0, H0⟩, ⟨%d1, H1⟩, ⟨%d2, H2⟩, ⟨%d3, H3⟩⟩
  ihave HS := (scr_of_rest (F := F) c) $$ HR
  unfold scr
  icases HS with ⟨S0, S1, S2⟩
  iapply (sound_kernel c (grid0.coords t) _ _ _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [S0]; · iexact S0
  isplitl [S1]; · iexact S1
  isplitl [S2]; · iexact S2
  iintro ⟨H0, H1, H2, H3, S0, S1, S2⟩
  isplitl [Hp S0 S1 S2]
  · isplitr [Hp]
    · iapply (rest_of_scr (F := F) c)
      unfold scr
      isplitl [S0]; · iexact S0
      isplitl [S1]; · iexact S1
      iexact S2
    · iexact Hp
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
/-- Every fair execution of the program ends, with every array of the pipeline at what the proof data gives it after the last
    point, every other buffer at what the host lines around the region leave in it, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- `run_main_quiescent` without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument array ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: the argument array ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Proof.Kernel
-- ==== Proof.Ideal.Trip.lean ====
/-
  One trip of the kernel's loop.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Claim

@[expose] public section

set_option maxRecDepth 16384

noncomputable section

/-! ## The skeleton equations of the parts that read no named constant

They are restated without the instance those parts do not take. -/

namespace Cert.KernelIdeal

open Idealize.ShloMosaic

theorem k0_part8_eq_skeleton {F : FTy → Type} [FloatOps F] : k0_part8 (F := F) = Gen.k0_part8_skel (F := F) := rfl
theorem k0_part9_eq_skeleton {F : FTy → Type} [FloatOps F] : k0_part9 (F := F) = Gen.k0_part9_skel (F := F) := rfl
theorem k0_part10_eq_skeleton {F : FTy → Type} [FloatOps F] : k0_part10 (F := F) = Gen.k0_part10_skel (F := F) := rfl
theorem k0_part11_eq_skeleton {F : FTy → Type} [FloatOps F] : k0_part11 (F := F) = Gen.k0_part11_skel (F := F) := rfl
theorem k0_part12_eq_skeleton {F : FTy → Type} [FloatOps F] : k0_part12 (F := F) = Gen.k0_part12_skel (F := F) := rfl
theorem k0_part13_eq_skeleton {F : FTy → Type} [FloatOps F] : k0_part13 (F := F) = Gen.k0_part13_skel (F := F) := rfl
theorem k0_part14_eq_skeleton {F : FTy → Type} [FloatOps F] : k0_part14 (F := F) = Gen.k0_part14_skel (F := F) := rfl

end Cert.KernelIdeal

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A whole VMEM buffer held at contents `f`. -/
abbrev held (c : Dev nD) {s : Shape} {e : EltTy} (a : Memref sig .tc .vmem s e) (f : BufTy.Contents (Elt F) a.view.ty) : sProp 𝕄 :=
  a.view.loc (c : Thread nD τ) ↦[a.view.set]{fullShare} f

variable (c : Dev nD) (i : grid0.Coords)
  (arg1 : Memref sig .tc .vmem S256x256 .bf16) (harg1 : arg1.IsWhole)
  (arg2 : Memref sig .tc .vmem S256x10240 .bf16) (harg2 : arg2.IsWhole)
  (arg3 : Memref sig .tc .vmem S256x5120 .fp8e4m3) (harg3 : arg3.IsWhole)
  (arg4 : Memref sig .tc .vmem S1x40x256 .f32) (harg4 : arg4.IsWhole)
  (arg5 : Memref sig .tc .vmem S1024x256 .f32) (harg5 : arg5.IsWhole)
  (arg6 : Memref sig .tc .vmem S2x64x128 .f32) (harg6 : arg6.IsWhole)
  (arg7 : Memref sig .tc .vmem S8x256 .f32) (harg7 : arg7.IsWhole)

/-- What one trip holds: the two input blocks, the two output blocks and the three scratch buffers. -/
abbrev Trip (f1 : BufTy.Contents (Elt F) arg1.view.ty) (f2 : BufTy.Contents (Elt F) arg2.view.ty)
    (f3 : BufTy.Contents (Elt F) arg3.view.ty) (f4 : BufTy.Contents (Elt F) arg4.view.ty) : sProp 𝕄 :=
  iprop(held c arg1 f1 ∗ held c arg2 f2 ∗ held c arg3 f3 ∗ held c arg4 f4
    ∗ (∃ f5, held c arg5 f5) ∗ (∃ f6, held c arg6 f6) ∗ (∃ f7, held c arg7 f7))

set_option sl_exec.squeezeSlice true in
/-- One trip, run at a symbolic `k`: the pieces it leaves in the two output blocks, as functions of what the input blocks
    hold alone (the scratch buffers are written before they are read). -/
@[irreducible] def trip (f1 : BufTy.Contents (Elt F) arg1.view.ty) (f2 : BufTy.Contents (Elt F) arg2.view.ty) (k : Fin k0_t1_loop.trips) :
    { L : List (View.Piece (Elt F) S256x5120 .fp8e4m3) × List (View.Piece (Elt F) S1x40x256 .f32) // ∀ f3 f4,
      Trip (F := F) c arg1 arg2 arg3 arg4 arg5 arg6 arg7 f1 f2 f3 f4
      ⊢ wp frame (wpE (defs₀ (F := F)) Variants.none (c : Thread nD τ) none) Set.univ
          (k0_t1_body (F := F) i arg1 harg1 arg2 harg2 arg3 harg3 arg4 harg4 arg5 harg5 arg6 harg6 arg7 harg7 k ())
          (fun _ => Trip (F := F) c arg1 arg2 arg3 arg4 arg5 arg6 arg7 f1 f2
            (arg3.view.writes (Elt F) f3 L.1) (arg4.view.writes (Elt F) f4 L.2)) } := by
  refine ⟨⟨?L3, ?L4⟩, fun f3 f4 => ?run⟩
  case run =>
    unfold k0_t1_body
    iintro ⟨H1, H2, H3, H4, ⟨%f5, H5⟩, ⟨%f6, H6⟩, ⟨%f7, H7⟩⟩
    sl_exec
    sl_step
    sl_close

/-- The pieces the trips before trip `k` leave, last first. -/
@[irreducible] def pbStep (f1 : BufTy.Contents (Elt F) arg1.view.ty) (f2 : BufTy.Contents (Elt F) arg2.view.ty) (k : ℕ)
    (prev : List (View.Piece (Elt F) S256x5120 .fp8e4m3) × List (View.Piece (Elt F) S1x40x256 .f32)) :
    List (View.Piece (Elt F) S256x5120 .fp8e4m3) × List (View.Piece (Elt F) S1x40x256 .f32) :=
  if h : k < k0_t1_loop.trips then
    let L := (trip (F := F) c i arg1 harg1 arg2 harg2 arg3 harg3 arg4 harg4 arg5 harg5 arg6 harg6 arg7 harg7 f1 f2 ⟨k, h⟩).1
    (L.1 ++ prev.1, L.2 ++ prev.2)
  else prev

@[inherit_doc pbStep]
def pb (f1 : BufTy.Contents (Elt F) arg1.view.ty) (f2 : BufTy.Contents (Elt F) arg2.view.ty) :
    ℕ → List (View.Piece (Elt F) S256x5120 .fp8e4m3) × List (View.Piece (Elt F) S1x40x256 .f32)
  | 0 => ([], [])
  | k + 1 => pbStep (F := F) c i arg1 harg1 arg2 harg2 arg3 harg3 arg4 harg4 arg5 harg5 arg6 harg6 arg7 harg7 f1 f2 k (pb f1 f2 k)

theorem pb_succ (f1 : BufTy.Contents (Elt F) arg1.view.ty) (f2 : BufTy.Contents (Elt F) arg2.view.ty) (k : Fin k0_t1_loop.trips) :
    pb (F := F) c i arg1 harg1 arg2 harg2 arg3 harg3 arg4 harg4 arg5 harg5 arg6 harg6 arg7 harg7 f1 f2 (k.val + 1)
      = ((trip (F := F) c i arg1 harg1 arg2 harg2 arg3 harg3 arg4 harg4 arg5 harg5 arg6 harg6 arg7 harg7 f1 f2 k).1.1
          ++ (pb (F := F) c i arg1 harg1 arg2 harg2 arg3 harg3 arg4 harg4 arg5 harg5 arg6 harg6 arg7 harg7 f1 f2 k.val).1,
         (trip (F := F) c i arg1 harg1 arg2 harg2 arg3 harg3 arg4 harg4 arg5 harg5 arg6 harg6 arg7 harg7 f1 f2 k).1.2
          ++ (pb (F := F) c i arg1 harg1 arg2 harg2 arg3 harg3 arg4 harg4 arg5 harg5 arg6 harg6 arg7 harg7 f1 f2 k.val).2) := by
  rw [pb.eq_2]; unfold pbStep; exact dif_pos k.isLt

/-- Before trip `k`: the inputs as they were, the outputs with the pieces of the trips before, the scratches at anything. -/
abbrev inv (f1 : BufTy.Contents (Elt F) arg1.view.ty) (f2 : BufTy.Contents (Elt F) arg2.view.ty)
    (g3 : BufTy.Contents (Elt F) arg3.view.ty) (g4 : BufTy.Contents (Elt F) arg4.view.ty) (k : ℕ) (_u : Unit) : sProp 𝕄 :=
  iprop(held c arg1 f1 ∗ held c arg2 f2
    ∗ (∃ f3, held c arg3 f3 ∗ ⌜f3 = arg3.view.writes (Elt F) g3
        (pb (F := F) c i arg1 harg1 arg2 harg2 arg3 harg3 arg4 harg4 arg5 harg5 arg6 harg6 arg7 harg7 f1 f2 k).1⌝)
    ∗ (∃ f4, held c arg4 f4 ∗ ⌜f4 = arg4.view.writes (Elt F) g4
        (pb (F := F) c i arg1 harg1 arg2 harg2 arg3 harg3 arg4 harg4 arg5 harg5 arg6 harg6 arg7 harg7 f1 f2 k).2⌝)
    ∗ (∃ f5, held c arg5 f5) ∗ (∃ f6, held c arg6 f6) ∗ (∃ f7, held c arg7 f7))

set_option warn.classDefReducibility false in
/-- The loop's invariant, kept by one trip. -/
@[sl_loop] def loopInv (f1 : BufTy.Contents (Elt F) arg1.view.ty) (f2 : BufTy.Contents (Elt F) arg2.view.ty)
    (g3 : BufTy.Contents (Elt F) arg3.view.ty) (g4 : BufTy.Contents (Elt F) arg4.view.ty) :
    LoopInvTy_k0_t1 (F := F) Unit ℕ (UR sig nD τ) ℕ Variants.none c none Set.univ i arg1 harg1 arg2 harg2 arg3 harg3 arg4 harg4
      arg5 harg5 arg6 harg6 arg7 harg7 where
  inv := inv (F := F) c i arg1 harg1 arg2 harg2 arg3 harg3 arg4 harg4 arg5 harg5 arg6 harg6 arg7 harg7 f1 f2 g3 g4
  step k acc := by
    iintro ⟨H1, H2, ⟨%f3, H3, %h3⟩, ⟨%f4, H4, %h4⟩, H5, H6, H7⟩
    iapply (wp_wand_r Idealize.ShloMosaic.frame (wpE (defs₀ (F := F)) Variants.none (c : Thread nD τ) none) Set.univ)
    isplitl [H1 H2 H3 H4 H5 H6 H7]
    · iapply ((trip (F := F) c i arg1 harg1 arg2 harg2 arg3 harg3 arg4 harg4 arg5 harg5 arg6 harg6 arg7 harg7 f1 f2 k).2 f3 f4)
      isplitl [H1]; · iexact H1
      isplitl [H2]; · iexact H2
      isplitl [H3]; · iexact H3
      isplitl [H4]; · iexact H4
      isplitl [H5]; · iexact H5
      isplitl [H6]; · iexact H6
      iexact H7
    · iintro %_ ⟨H1, H2, H3, H4, H5, H6, H7⟩
      unfold inv
      rw [pb_succ]
      isplitl [H1]; · iexact H1
      isplitl [H2]; · iexact H2
      isplitl [H3]
      · iexists _; isplitl [H3]; · iexact H3
        ipureintro; rw [h3, ← View.writes_append]
      isplitl [H4]
      · iexists _; isplitl [H4]; · iexact H4
        ipureintro; rw [h4, ← View.writes_append]
      isplitl [H5]; · iexact H5
      isplitl [H6]; · iexact H6
      iexact H7

end Cert.Proof.KernelIdeal
-- ==== Proof.Ideal.Pieces.lean ====
/-
  What one trip of the kernel's loop computes, as plain functions of the two input blocks, and the pieces that agree with
  the arrays they make up.
-/
module

public import proofs.«01_k».proof.Proof.Ideal.Trip
public import Idealize.ShloMosaic.Lib.ValueLayout
public import Idealize.ShloMosaic.Lib.Claim
public import Idealize.ShloMosaic.Lib.Pipeline.ValueKit

@[expose] public section

set_option maxRecDepth 16384

noncomputable section

namespace Cert.Proof.KernelIdeal

open Cert.KernelIdeal Cert.KernelIdeal.Gen
open Idealize.ShloMosaic hiding ix1 ix2 ix3 ix4 ix5 ix6 eq_ix1 eq_ix2 eq_ix3 eq_ix4
open Idealize.ShloMosaic.TcCoe Idealize.ShloMosaic.Tactic
open Idealize.SL Idealize.SL.RA Idealize.SL.BI
open scoped Idealize.SL.BI
open Idealize.ShloMosaic.ValueIdx Idealize.ShloMosaic.ValueKit
open Idealize.SL.BI.BIBase Idealize.SL.BI.Laws Idealize.SL.ProofMode Idealize.SL.Sem

variable {F : FTy → Type} [FloatOps F] [Named F]

/-! ## What one trip computes, from the two input blocks

`x1` is the selection matrix's block, `x2` the block of 256 rows of gate and up pairs; trip `k` handles eight groups of
128 channels, group `j` of it being the 256 columns `2048*k + 256*j …` of `x2`. -/

section Spec

variable (x1 : Vec F S256x256 .bf16) (x2 : Vec F S256x10240 .bf16) (k : Fin k0_t1_loop.trips)

/-- The selection matrix as loaded. -/
def sel : Vec F S256x256 .bf16 := View.ld x1 (Rect.unit (s := S256x256) ![0, 0] S256x256.size inb_S256x256_S256x256_0_0)

/-- Group `j`'s columns. -/
def blk (j : Fin 8) : Vec F S256x256 .bf16 := View.ld x2 (Rect.unit (s := S256x10240) (k0_off1 k (BitVec.ofNat 32 j.val)) S256x256.size (k0_off1_inb k j))

/-- Group `j`'s channels, channel by row of tokens. -/
def yT (j : Fin 8) : FVec F S128x256 .f32 := k0_pay3 (sel x1) (blk x2 k j)

/-- Group `j`'s maxima over the channels equal modulo eight. -/
def mT (j : Fin 8) : FVec F S8x256 .f32 := k0_pay5 (sel x1) (blk x2 k j)

/-- The eight groups' channels, one below the other. -/
def yArr : Vec F S1024x256 .f32 := fun q =>
  yT x1 x2 k ⟨(q 0).val / 128, by have := (q 0).isLt; change (q 0).val < 1024 at this; omega⟩
    (ix2 (⟨(q 0).val % 128, by omega⟩ : Fin 128) (q 1 : Fin 256))

/-- The eight groups' maxima, one below the other, the two halves of the tokens apart. -/
def mArr : Vec F S2x64x128 .f32 := fun q =>
  mT x1 x2 k ⟨(q 1).val / 8, by have := (q 1).isLt; change (q 1).val < 64 at this; omega⟩
    (ix2 (⟨(q 1).val % 8, by omega⟩ : Fin 8) (⟨128 * (q 0).val + (q 2).val, by
      have h0 := (q 0).isLt; have h2 := (q 2).isLt; change (q 0).val < 2 at h0; change (q 2).val < 128 at h2; omega⟩ : Fin 256))

/-- Rows `s, s + 8, …` of half `h` of them. -/
def mRow (h s : ℕ) : Vec F S8x128 .f32 := fun x =>
  mArr x1 x2 k (ix3 (Fin.ofNat 2 h) (Fin.ofNat 64 (s + 8 * (x 0).val)) (x 1 : Fin 128))

/-- The groups' largest magnitudes over 448: row `j` is group `j`. -/
def aArr : FVec F S8x256 .f32 :=
  k0_pay53 (k0_pay51 (k0_pay50 (mRow x1 x2 k 0 0) (mRow x1 x2 k 0 1) (mRow x1 x2 k 0 2) (mRow x1 x2 k 0 3) (mRow x1 x2 k 0 4))
      (mRow x1 x2 k 0 5) (mRow x1 x2 k 0 6) (mRow x1 x2 k 0 7))
    (k0_pay52 (mRow x1 x2 k 1 0) (mRow x1 x2 k 1 1) (mRow x1 x2 k 1 2) (mRow x1 x2 k 1 3))
    (mRow x1 x2 k 1 4) (mRow x1 x2 k 1 5) (mRow x1 x2 k 1 6) (mRow x1 x2 k 1 7)

/-- The first half of the search for their exponent fields. -/
def eArr : IVec S8x256 32 :=
  k0_pay54 (k0_pay51 (k0_pay50 (mRow x1 x2 k 0 0) (mRow x1 x2 k 0 1) (mRow x1 x2 k 0 2) (mRow x1 x2 k 0 3) (mRow x1 x2 k 0 4))
      (mRow x1 x2 k 0 5) (mRow x1 x2 k 0 6) (mRow x1 x2 k 0 7))
    (k0_pay52 (mRow x1 x2 k 1 0) (mRow x1 x2 k 1 1) (mRow x1 x2 k 1 2) (mRow x1 x2 k 1 3))
    (mRow x1 x2 k 1 4) (mRow x1 x2 k 1 5) (mRow x1 x2 k 1 6) (mRow x1 x2 k 1 7)

/-- The groups' scales. -/
def scT : FVec F S1x8x256 .f32 := k0_pay57 (aArr x1 x2 k) (eArr x1 x2 k) k0_pay55

/-- Their inverses. -/
def invT : FVec F S8x256 .f32 := k0_pay58 (aArr x1 x2 k) (eArr x1 x2 k) k0_pay55

/-- Group `j`'s codes, token by channel. -/
def codeT (j : Fin 8) : FVec F S256x128 .fp8e4m3 := k0_pay60 (yT x1 x2 k j) (fun x => invT x1 x2 k (ix2 j (x 1 : Fin 256)))

end Spec

/-- What the body leaves in the codes' block. -/
def codesOut (x1 : Vec F S256x256 .bf16) (x2 : Vec F S256x10240 .bf16) : Vec F S256x5120 .fp8e4m3 := fun y =>
  codeT x1 x2 ⟨(y 1).val / 1024, by have := (y 1).isLt; change (y 1).val < 5120 at this; change _ < 5; omega⟩
    ⟨(y 1).val % 1024 / 128, by omega⟩ (ix2 (y 0 : Fin 256) (⟨(y 1).val % 128, by omega⟩ : Fin 128))

/-- What the body leaves in the scales' block. -/
def scalesOut (x1 : Vec F S256x256 .bf16) (x2 : Vec F S256x10240 .bf16) : Vec F S1x40x256 .f32 := fun y =>
  scT x1 x2 ⟨(y 1).val / 8, by have := (y 1).isLt; change (y 1).val < 40 at this; change _ < 5; omega⟩
    (ix3 (0 : Fin 1) (⟨(y 1).val % 8, by omega⟩ : Fin 8) (y 2 : Fin 256))

/-! ## Pieces that agree with an array -/

/-- Stored at rows `128*j …`, group `j`'s channels are the array's. -/
theorem yArr_piece (x1 : Vec F S256x256 .bf16) (x2 : Vec F S256x10240 .bf16) (k : Fin k0_t1_loop.trips) (j : Fin 8) (n : ℕ) (hn : n = 128 * j.val)
    (inb : ∀ a, (![n, 0] : Fin 2 → ℕ) a + S128x256.size a ≤ S1024x256.size a) (w : FVec F S128x256 .f32)
    (hw : w = shapeCast S128x256 (yT x1 x2 k j) shapeCasts_S128x256_S128x256) (x : S128x256.Idx) :
    w x = yArr x1 x2 k ((Rect.unit (s := S1024x256) ![n, 0] S128x256.size inb).emb x) := by
  subst hn hw
  rw [shapeCast_self]
  have h0 := (x 0).isLt; change (x 0).val < 128 at h0
  have e0 : ((Rect.unit (s := S1024x256) ![128 * j.val, 0] S128x256.size inb).emb x 0 : ℕ) = 128 * j.val + (x 0).val := by
    rw [rect_emb_unit_val]; rfl
  have e1 : ((Rect.unit (s := S1024x256) ![128 * j.val, 0] S128x256.size inb).emb x 1 : ℕ) = (x 1).val := by
    rw [rect_emb_unit_val]; exact Nat.zero_add _
  unfold yArr
  have ej : (⟨((Rect.unit (s := S1024x256) ![128 * j.val, 0] S128x256.size inb).emb x 0 : ℕ) / 128, by rw [e0]; omega⟩ : Fin 8) = j :=
    Fin.ext (by show _ / 128 = _; rw [e0]; omega)
  rw [ej]
  refine congrArg (yT x1 x2 k j) ((eq_ix2 x).trans ?_)
  congr 1
  · exact Fin.ext (by show _ = _ % 128; rw [e0]; show (x 0).val = _; omega)
  · exact Fin.ext e1.symm

/-- Half `h` of group `j`'s maxima, stored at rows `8*j …` of half `h`, are the array's. -/
theorem mArr_piece (x1 : Vec F S256x256 .bf16) (x2 : Vec F S256x10240 .bf16) (k : Fin k0_t1_loop.trips) (j : Fin 8) (h n o : ℕ) (hn : n = 8 * j.val)
    (ho : o = 128 * h)
    (inb : ∀ a, (![h, n, 0] : Fin 3 → ℕ) a + S1x8x128.size a ≤ S2x64x128.size a) (hs : S8x256.Slices ![0, o] S8x128) (w : FVec F S1x8x128 .f32)
    (hw : w = shapeCast S1x8x128 (extractStridedSlice S8x128 ![0, o] (mT x1 x2 k j) hs) shapeCasts_S8x128_S1x8x128) (x : S1x8x128.Idx) :
    w x = mArr x1 x2 k ((Rect.unit (s := S2x64x128) ![h, n, 0] S1x8x128.size inb).emb x) := by
  subst hn hw ho
  have h0 := (x 0).isLt; change (x 0).val < 1 at h0
  have h1 := (x 1).isLt; change (x 1).val < 8 at h1
  have h2 := (x 2).isLt; change (x 2).val < 128 at h2
  have hh : h < 2 := by have := inb 0; change h + 1 ≤ 2 at this; omega
  have e0 : ((Rect.unit (s := S2x64x128) ![h, 8 * j.val, 0] S1x8x128.size inb).emb x 0 : ℕ) = h := by
    rw [rect_emb_unit_val]; show h + (x 0).val = h; omega
  have e1 : ((Rect.unit (s := S2x64x128) ![h, 8 * j.val, 0] S1x8x128.size inb).emb x 1 : ℕ) = 8 * j.val + (x 1).val := by
    rw [rect_emb_unit_val]; rfl
  have e2 : ((Rect.unit (s := S2x64x128) ![h, 8 * j.val, 0] S1x8x128.size inb).emb x 2 : ℕ) = (x 2).val := by
    rw [rect_emb_unit_val]; exact Nat.zero_add _
  have ej : (⟨((Rect.unit (s := S2x64x128) ![h, 8 * j.val, 0] S1x8x128.size inb).emb x 1 : ℕ) / 8, by rw [e1]; omega⟩ : Fin 8) = j :=
    Fin.ext (by show _ / 8 = _; rw [e1]; omega)
  unfold mArr
  rw [ej]
  refine (congrArg _ (eq_ix3 x)).trans ((shapeCast_ab_1ab_apply _ _ _ _ _).trans (extractStridedSlice_apply _ _ _ _ _ ?_))
  intro a
  match a with
  | ⟨0, _⟩ => show _ % 8 = 0 + (x 1).val; rw [e1]; omega
  | ⟨1, _⟩ => show 128 * _ + _ = 128 * h + (x 2).val; rw [e0, e2]

/-- A strided read of half `h`, through that half, is its rows `s, s + 8, …`. -/
theorem mRow_of_read (x1 : Vec F S256x256 .bf16) (x2 : Vec F S256x10240 .bf16) (k : Fin k0_t1_loop.trips) (v : View sig .tc .vmem S2x64x128 .f32)
    (L : List (View.Piece (Elt F) S2x64x128 .f32)) (hL : ∀ y, View.canon L y = mArr x1 x2 k y) (h s : ℕ)
    (inb : ∀ a, (![h, 0, 0] : Fin 3 → ℕ) a + S1x64x128.size a ≤ S2x64x128.size a) (inb') (h0) (hs) (hw)
    (hR : S8x128.numel = ((Rect.unit (s := S2x64x128) ![h, 0, 0] S1x64x128.size inb).withinL
        (LoadRect.consLift (⟨![s, 0], S8x128.size, ![8, 1], inb'⟩ : LoadRect S64x128) ![1, 64, 128] h0 hs) hw).shape.numel) :
    (LoadRect.valAlong (lr := (⟨![s, 0], S8x128.size, ![8, 1], inb'⟩ : LoadRect S64x128)) hR (v.readCov L ((Rect.unit (s := S2x64x128) ![h, 0, 0] S1x64x128.size inb).withinL
        (LoadRect.consLift (⟨![s, 0], S8x128.size, ![8, 1], inb'⟩ : LoadRect S64x128) ![1, 64, 128] h0 hs) hw)) : Vec F S8x128 .f32)
      = mRow x1 x2 k h s := by
  have hh : h < 2 := by have := inb 0; change h + 1 ≤ 2 at this; omega
  rw [View.readCov_eq_canon']
  funext x
  have hx0 := (x 0).isLt; change (x 0).val < 8 at hx0
  have hx1 := (x 1).isLt; change (x 1).val < 128 at hx1
  have hs8 : s + 8 * 7 < 64 := by have := inb' 0; change 8 = 0 ∨ s + 8 * (8 - 1) < 64 at this; omega
  show View.canon L (((Rect.unit (s := S2x64x128) ![h, 0, 0] S1x64x128.size inb).withinL _ hw).idx _) = _
  rw [hL]
  unfold mRow
  refine congrArg (mArr x1 x2 k) ?_
  refine (Rect.idx_withinL _ _ hw _).trans ?_
  refine (congrArg (Rect.unit (s := S2x64x128) ![h, 0, 0] S1x64x128.size inb).emb (LoadRect.liftsTo_consLift _ _ h0 hs x).symm).trans ?_
  rw [Shape.reshapeEquiv_cons_one]
  funext a
  apply Fin.ext
  match a with
  | ⟨0, _⟩ =>
    refine (rect_emb_unit_val _ _ _ _ _).trans ?_
    show h + 0 = h % 2
    omega
  | ⟨1, _⟩ =>
    refine (rect_emb_unit_val _ _ _ _ _).trans ?_
    show 0 + (s + 8 * (x 0).val) = (s + 8 * (x 0).val) % 64
    omega
  | ⟨2, _⟩ =>
    refine (rect_emb_unit_val _ _ _ _ _).trans ?_
    show 0 + (0 + 1 * (x 1).val) = (x 1).val
    omega

/-- Stored at columns `1024*k + 128*j …`, group `j`'s codes are the block's. -/
theorem codesOut_piece (x1 : Vec F S256x256 .bf16) (x2 : Vec F S256x10240 .bf16) (k : Fin k0_t1_loop.trips) (j : Fin 8)
    (inb : ∀ a, k0_off3 k (BitVec.ofNat 32 j.val) a + S256x128.size a ≤ S256x5120.size a) (w : FVec F S256x128 .fp8e4m3)
    (hw : w = codeT x1 x2 k j) (x : S256x128.Idx) :
    w x = codesOut x1 x2 ((Rect.unit (s := S256x5120) (k0_off3 k (BitVec.ofNat 32 j.val)) S256x128.size inb).emb x) := by
  subst hw
  have hk := k.isLt; change k.val < 5 at hk
  have h1 := (x 1).isLt; change (x 1).val < 128 at h1
  have e0 : ((Rect.unit (s := S256x5120) (k0_off3 k (BitVec.ofNat 32 j.val)) S256x128.size inb).emb x 0 : ℕ) = (x 0).val := by
    exact (rect_emb_unit_val _ _ _ _ _).trans ((congrArg (· + (x 0).val) (congrFun (k0_off3_eq k j) 0)).trans (Nat.zero_add _))
  have e1 : ((Rect.unit (s := S256x5120) (k0_off3 k (BitVec.ofNat 32 j.val)) S256x128.size inb).emb x 1 : ℕ) = 1024 * k.val + 128 * j.val + (x 1).val := by
    exact (rect_emb_unit_val _ _ _ _ _).trans (congrArg (· + (x 1).val) (congrFun (k0_off3_eq k j) 1))
  unfold codesOut
  have ek : (⟨((Rect.unit (s := S256x5120) (k0_off3 k (BitVec.ofNat 32 j.val)) S256x128.size inb).emb x 1 : ℕ) / 1024, by
      rw [e1]; change _ < 5; omega⟩ : Fin k0_t1_loop.trips) = k := Fin.ext (by show _ / 1024 = _; rw [e1]; omega)
  have ej : (⟨((Rect.unit (s := S256x5120) (k0_off3 k (BitVec.ofNat 32 j.val)) S256x128.size inb).emb x 1 : ℕ) % 1024 / 128, by
      omega⟩ : Fin 8) = j := Fin.ext (by show _ % 1024 / 128 = _; rw [e1]; omega)
  rw [ek, ej]
  refine congrArg (codeT x1 x2 k j) ((eq_ix2 x).trans ?_)
  congr 1
  · exact Fin.ext e0.symm
  · exact Fin.ext (by show (x 1).val = _ % 128; rw [e1]; omega)

/-- Stored at rows `8*k …`, the trip's scales are the block's. -/
theorem scalesOut_piece (x1 : Vec F S256x256 .bf16) (x2 : Vec F S256x10240 .bf16) (k : Fin k0_t1_loop.trips)
    (inb : ∀ a, k0_off2 k a + S1x8x256.size a ≤ S1x40x256.size a) (w : FVec F S1x8x256 .f32)
    (hw : w = scT x1 x2 k) (x : S1x8x256.Idx) :
    w x = scalesOut x1 x2 ((Rect.unit (s := S1x40x256) (k0_off2 k) S1x8x256.size inb).emb x) := by
  subst hw
  have hk := k.isLt; change k.val < 5 at hk
  have h0 := (x 0).isLt; change (x 0).val < 1 at h0
  have h1 := (x 1).isLt; change (x 1).val < 8 at h1
  have e1 : ((Rect.unit (s := S1x40x256) (k0_off2 k) S1x8x256.size inb).emb x 1 : ℕ) = 8 * k.val + (x 1).val := by
    exact (rect_emb_unit_val _ _ _ _ _).trans (congrArg (· + (x 1).val) (congrFun (k0_off2_eq k) 1))
  have e2 : ((Rect.unit (s := S1x40x256) (k0_off2 k) S1x8x256.size inb).emb x 2 : ℕ) = (x 2).val := by
    exact (rect_emb_unit_val _ _ _ _ _).trans ((congrArg (· + (x 2).val) (congrFun (k0_off2_eq k) 2)).trans (Nat.zero_add _))
  unfold scalesOut
  have ek : (⟨((Rect.unit (s := S1x40x256) (k0_off2 k) S1x8x256.size inb).emb x 1 : ℕ) / 8, by
      rw [e1]; change _ < 5; omega⟩ : Fin k0_t1_loop.trips) = k := Fin.ext (by show _ / 8 = _; rw [e1]; omega)
  rw [ek]
  refine congrArg (scT x1 x2 k) ((eq_ix3 x).trans ?_)
  congr 1
  · exact Fin.ext (by show (x 0).val = 0; omega)
  · exact Fin.ext (by show (x 1).val = _ % 8; rw [e1]; omega)
  · exact Fin.ext e2.symm

end Cert.Proof.KernelIdeal
-- ==== Proof.Ideal.Agree.lean ====
/-
  The pieces one trip of the kernel's loop stores are those of `codesOut` and `scalesOut`.
-/
module

public import proofs.«01_k».proof.Proof.Ideal.Pieces
public import Idealize.ShloMosaic.Lib.Claim
public import Idealize.ShloMosaic.Lib.Pipeline.ValueKit

@[expose] public section

set_option maxRecDepth 16384

noncomputable section

namespace Cert.Proof.KernelIdeal

open Cert.KernelIdeal Cert.KernelIdeal.Gen
open Idealize.ShloMosaic hiding ix1 ix2 ix3 ix4 ix5 ix6 eq_ix1 eq_ix2 eq_ix3 eq_ix4
open Idealize.ShloMosaic.TcCoe Idealize.ShloMosaic.Tactic
open Idealize.SL Idealize.SL.RA Idealize.SL.BI
open scoped Idealize.SL.BI
open Idealize.ShloMosaic.ValueIdx Idealize.ShloMosaic.ValueKit
open Idealize.SL.BI.BIBase Idealize.SL.BI.Laws Idealize.SL.ProofMode Idealize.SL.Sem

variable {F : FTy → Type} [FloatOps F] [Named F]

variable (c : Dev nD) (i : grid0.Coords)
  (arg1 : Memref sig .tc .vmem S256x256 .bf16) (harg1 : arg1.IsWhole)
  (arg2 : Memref sig .tc .vmem S256x10240 .bf16) (harg2 : arg2.IsWhole)
  (arg3 : Memref sig .tc .vmem S256x5120 .fp8e4m3) (harg3 : arg3.IsWhole)
  (arg4 : Memref sig .tc .vmem S1x40x256 .f32) (harg4 : arg4.IsWhole)
  (arg5 : Memref sig .tc .vmem S1024x256 .f32) (harg5 : arg5.IsWhole)
  (arg6 : Memref sig .tc .vmem S2x64x128 .f32) (harg6 : arg6.IsWhole)
  (arg7 : Memref sig .tc .vmem S8x256 .f32) (harg7 : arg7.IsWhole)

variable (f1 : BufTy.Contents (Elt F) arg1.view.ty) (f2 : BufTy.Contents (Elt F) arg2.view.ty) (k : Fin k0_t1_loop.trips)

/-! ## The scratch buffers of one trip -/

theorem y_agree : ∀ p ∈ trip.sl.H5_8 arg1 arg2 f1 f2 k, ∀ x, p.2 x = yArr (arg1.view.read (Elt F) f1) (arg2.view.read (Elt F) f2) k (p.1.emb x) := by
  dsimp only [trip.sl.H5_8, trip.sl.r, trip.sl.r_1, trip.sl.r_2, trip.sl.r_3, trip.sl.r_4, trip.sl.r_5, trip.sl.r_6, trip.sl.r_7, trip.sl.r_8, trip.sl.r_9, trip.sl.cst_65,
    k0_pay3, k0_pay4, k0_pay8, k0_pay9, k0_pay13, k0_pay14, k0_pay18, k0_pay19, k0_pay20, k0_pay24, k0_pay25, k0_pay26, k0_pay27, k0_pay28, k0_pay29, k0_pay33, k0_pay34, k0_pay38, k0_pay39, k0_pay44, k0_pay45]
  refine List.forall_mem_cons.2 ⟨?_, ?_⟩
  · intro x; exact yArr_piece (arg1.view.read (Elt F) f1) (arg2.view.read (Elt F) f2) k 7 896 rfl inb_S1024x256_S128x256_896_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 6 768 rfl inb_S1024x256_S128x256_768_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 5 640 rfl inb_S1024x256_S128x256_640_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 4 512 rfl inb_S1024x256_S128x256_512_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 3 384 rfl inb_S1024x256_S128x256_384_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 2 256 rfl inb_S1024x256_S128x256_256_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 1 128 rfl inb_S1024x256_S128x256_128_0 _ (by
      dsimp only [mT, yT, sel, blk, k0_pay3, k0_pay5]; rfl) x
  refine List.forall_mem_cons.2 ⟨?_, ?_⟩
  · intro x; exact yArr_piece (arg1.view.read (Elt F) f1) (arg2.view.read (Elt F) f2) k 0 0 rfl inb_S1024x256_S128x256_0_0 _ (by
      dsimp only [mT, yT, sel, blk, k0_pay3, k0_pay5]; rfl) x
  exact fun _ h => absurd h List.not_mem_nil

theorem y_canon (y : S1024x256.Idx) : View.canon (trip.sl.H5_8 arg1 arg2 f1 f2 k) y = yArr (arg1.view.read (Elt F) f1) (arg2.view.read (Elt F) f2) k y :=
  View.canon_apply_of_pieces _ _ (y_agree arg1 arg2 f1 f2 k) y
    (View.cover_of_tiled (trip.sl.H5_8 arg1 arg2 f1 f2 k) S128x256.size (by rfl) y)

theorem m_agree : ∀ p ∈ trip.sl.H6_16 arg1 arg2 f1 f2 k, ∀ x, p.2 x = mArr (arg1.view.read (Elt F) f1) (arg2.view.read (Elt F) f2) k (p.1.emb x) := by
  dsimp only [trip.sl.H6_16, trip.sl.r, trip.sl.r_1, trip.sl.r_2, trip.sl.r_3, trip.sl.r_4, trip.sl.r_5, trip.sl.r_6, trip.sl.r_7, trip.sl.r_8, trip.sl.r_9, trip.sl.cst_65,
    k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49]
  refine List.forall_mem_cons.2 ⟨?_, ?_⟩
  · intro x; exact mArr_piece (arg1.view.read (Elt F) f1) (arg2.view.read (Elt F) f2) k 7 1 56 128 rfl rfl inb_S2x64x128_S1x8x128_1_56_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 7 0 56 0 rfl rfl inb_S2x64x128_S1x8x128_0_56_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 6 1 48 128 rfl rfl inb_S2x64x128_S1x8x128_1_48_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 6 0 48 0 rfl rfl inb_S2x64x128_S1x8x128_0_48_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 5 1 40 128 rfl rfl inb_S2x64x128_S1x8x128_1_40_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 5 0 40 0 rfl rfl inb_S2x64x128_S1x8x128_0_40_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 4 1 32 128 rfl rfl inb_S2x64x128_S1x8x128_1_32_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 4 0 32 0 rfl rfl inb_S2x64x128_S1x8x128_0_32_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 3 1 24 128 rfl rfl inb_S2x64x128_S1x8x128_1_24_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 3 0 24 0 rfl rfl inb_S2x64x128_S1x8x128_0_24_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 2 1 16 128 rfl rfl inb_S2x64x128_S1x8x128_1_16_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 2 0 16 0 rfl rfl inb_S2x64x128_S1x8x128_0_16_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 1 1 8 128 rfl rfl inb_S2x64x128_S1x8x128_1_8_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 1 0 8 0 rfl rfl inb_S2x64x128_S1x8x128_0_8_0 slices_S8x256_o0_0_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 0 1 0 128 rfl rfl inb_S2x64x128_S1x8x128_1_0_0 slices_S8x256_o0_128_S8x128 _ (by
      dsimp only [mT, yT, sel, blk, k0_pay3, k0_pay5]; rfl) x
  refine List.forall_mem_cons.2 ⟨?_, ?_⟩
  · intro x; exact mArr_piece (arg1.view.read (Elt F) f1) (arg2.view.read (Elt F) f2) k 0 0 0 0 rfl rfl inb_S2x64x128_S1x8x128_0_0_0 slices_S8x256_o0_0_S8x128 _ (by
      dsimp only [mT, yT, sel, blk, k0_pay3, k0_pay5]; rfl) x
  exact fun _ h => absurd h List.not_mem_nil

theorem m_canon (y : S2x64x128.Idx) : View.canon (trip.sl.H6_16 arg1 arg2 f1 f2 k) y = mArr (arg1.view.read (Elt F) f1) (arg2.view.read (Elt F) f2) k y :=
  View.canon_apply_of_pieces _ _ (m_agree arg1 arg2 f1 f2 k) y
    (View.cover_of_tiled (trip.sl.H6_16 arg1 arg2 f1 f2 k) S1x8x128.size (by rfl) y)

theorem congr₄ {α β γ : Type} (f : β → α → α → α → γ) {b b' : β} {x1 y1 x2 y2 x3 y3 : α} (h : b = b') (h1 : x1 = y1) (h2 : x2 = y2)
    (h3 : x3 = y3) : f b x1 x2 x3 = f b' y1 y2 y3 := by rw [h, h1, h2, h3]

theorem congr₅ {α γ : Type} (f : α → α → α → α → α → γ) {x1 y1 x2 y2 x3 y3 x4 y4 x5 y5 : α} (h1 : x1 = y1) (h2 : x2 = y2)
    (h3 : x3 = y3) (h4 : x4 = y4) (h5 : x5 = y5) : f x1 x2 x3 x4 x5 = f y1 y2 y3 y4 y5 := by rw [h1, h2, h3, h4, h5]

theorem congr₆ {α β δ γ : Type} (f : β → δ → α → α → α → α → γ) {b b' : β} {d d' : δ} {x1 y1 x2 y2 x3 y3 x4 y4 : α} (h : b = b') (h' : d = d')
    (h1 : x1 = y1) (h2 : x2 = y2) (h3 : x3 = y3) (h4 : x4 = y4) : f b d x1 x2 x3 x4 = f b' d' y1 y2 y3 y4 := by
  rw [h, h', h1, h2, h3, h4]

theorem a_eq : trip.sl.r_13 arg1 arg2 arg6 f1 f2 k = aArr (arg1.view.read (Elt F) f1) (arg2.view.read (Elt F) f2) k := by
  unfold trip.sl.r_13 trip.sl.r_12 trip.sl.r_11 trip.sl.r_10 aArr
  refine congr₆ _ (congr₄ _ (congr₅ _ ?_ ?_ ?_ ?_ ?_) ?_ ?_ ?_) (congr₄ _ ?_ ?_ ?_ ?_) ?_ ?_ ?_ ?_
  all_goals exact mRow_of_read (arg1.view.read (Elt F) f1) (arg2.view.read (Elt F) f2) k arg6.view _ (m_canon arg1 arg2 f1 f2 k) _ _ _ _ _ _ _ _

theorem e_eq : trip.sl.r_14 arg1 arg2 arg6 f1 f2 k = eArr (arg1.view.read (Elt F) f1) (arg2.view.read (Elt F) f2) k := by
  unfold trip.sl.r_14 trip.sl.r_12 trip.sl.r_11 trip.sl.r_10 eArr
  refine congr₆ _ (congr₄ _ (congr₅ _ ?_ ?_ ?_ ?_ ?_) ?_ ?_ ?_) (congr₄ _ ?_ ?_ ?_ ?_) ?_ ?_ ?_ ?_
  all_goals exact mRow_of_read (arg1.view.read (Elt F) f1) (arg2.view.read (Elt F) f2) k arg6.view _ (m_canon arg1 arg2 f1 f2 k) _ _ _ _ _ _ _ _

theorem inv_eq : trip.sl.r_15 arg1 arg2 arg6 f1 f2 k = invT (arg1.view.read (Elt F) f1) (arg2.view.read (Elt F) f2) k := by
  unfold trip.sl.r_15 invT
  rw [a_eq, e_eq]

/-! ## What the trip reads back, and stores in the output blocks -/

theorem y_read (j : Fin 8) (n : ℕ) (hn : n = 128 * j.val) (inb : ∀ a, (![n, 0] : Fin 2 → ℕ) a + S128x256.size a ≤ S1024x256.size a) :
    (arg5.view.readCov (trip.sl.H5_8 arg1 arg2 f1 f2 k) (Rect.unit (s := S1024x256) ![n, 0] S128x256.size inb).toLoadRect : Vec F S128x256 .f32)
      = yT (arg1.view.read (Elt F) f1) (arg2.view.read (Elt F) f2) k j := by
  rw [View.readCov_eq_canon']
  funext x
  refine (y_canon arg1 arg2 f1 f2 k _).trans ?_
  exact (yArr_piece _ _ k j n hn inb _ (shapeCast_self _ shapeCasts_S128x256_S128x256).symm x).symm

theorem inv_canon (y : S8x256.Idx) : View.canon (trip.sl.H7_1 arg1 arg2 arg6 f1 f2 k) y = invT (arg1.view.read (Elt F) f1) (arg2.view.read (Elt F) f2) k y := by
  refine View.canon_apply_of_pieces _ _ ?_ y (View.cover_of_tiled (trip.sl.H7_1 arg1 arg2 arg6 f1 f2 k) S8x256.size (by rfl) y)
  unfold trip.sl.H7_1
  refine List.forall_mem_cons.2 ⟨?_, fun _ h => absurd h List.not_mem_nil⟩
  intro x
  show k0_pay59 (trip.sl.r_15 arg1 arg2 arg6 f1 f2 k) x = _
  rw [inv_eq]
  unfold k0_pay59
  dsimp only
  rw [shapeCast_self]
  refine congrArg _ (funext fun a => Fin.ext ?_)
  refine Eq.trans ?_ (rect_emb_unit_val _ _ _ _ _).symm
  match a with
  | ⟨0, _⟩ => exact (Nat.zero_add _).symm
  | ⟨1, _⟩ => exact (Nat.zero_add _).symm

theorem inv_read (j : Fin 8) (n : ℕ) (hn : n = j.val) (inb : ∀ a, (![n, 0] : Fin 2 → ℕ) a + S1x256.size a ≤ S8x256.size a) :
    (arg7.view.readCov (trip.sl.H7_1 arg1 arg2 arg6 f1 f2 k) (Rect.unit (s := S8x256) ![n, 0] S1x256.size inb).toLoadRect : Vec F S1x256 .f32)
      = fun x => invT (arg1.view.read (Elt F) f1) (arg2.view.read (Elt F) f2) k (ix2 j (x 1 : Fin 256)) := by
  subst hn
  rw [View.readCov_eq_canon']
  funext x
  refine (inv_canon arg1 arg2 arg6 f1 f2 k _).trans (congrArg _ (funext fun a => Fin.ext ?_))
  have h0 := (x 0).isLt; change (x 0).val < 1 at h0
  refine (rect_emb_unit_val _ _ _ _ _).trans ?_
  match a with
  | ⟨0, _⟩ => show j.val + (x 0).val = j.val; omega
  | ⟨1, _⟩ => exact Nat.zero_add _

theorem codeT_eq (x1 : Vec F S256x256 .bf16) (x2 : Vec F S256x10240 .bf16) (j : Fin 8) (a : Vec F S128x256 .f32) (b : Vec F S1x256 .f32)
    (ha : a = yT x1 x2 k j) (hb : b = fun x => invT x1 x2 k (ix2 j (x 1 : Fin 256))) : k0_pay60 a b = codeT x1 x2 k j := by
  rw [ha, hb]; rfl

theorem codes_agree : ∀ p ∈ (trip (F := F) c i arg1 harg1 arg2 harg2 arg3 harg3 arg4 harg4 arg5 harg5 arg6 harg6 arg7 harg7 f1 f2 k).1.1,
    ∀ x, p.2 x = codesOut (arg1.view.read (Elt F) f1) (arg2.view.read (Elt F) f2) (p.1.emb x) := by
  unfold trip
  dsimp only
  refine List.forall_mem_cons.2 ⟨?_, ?_⟩
  · intro x
    refine codesOut_piece (arg1.view.read (Elt F) f1) (arg2.view.read (Elt F) f2) k 7 (k0_off3_inb k 7) _ (Eq.trans ?_ (codeT_eq k _ _ 7 _ _
      (y_read arg1 arg2 arg5 f1 f2 k 7 896 rfl inb_S1024x256_S128x256_896_0)
      (inv_read arg1 arg2 arg6 arg7 f1 f2 k 7 7 rfl inb_S8x256_S1x256_7_0))) x
    dsimp only [k0_pay2, trip.sl.v508, trip.sl.v509, k0_pay60]
  refine List.forall_mem_cons.2 ⟨?_, ?_⟩
  · intro x
    refine codesOut_piece (arg1.view.read (Elt F) f1) (arg2.view.read (Elt F) f2) k 6 (k0_off3_inb k 6) _ (Eq.trans ?_ (codeT_eq k _ _ 6 _ _
      (y_read arg1 arg2 arg5 f1 f2 k 6 768 rfl inb_S1024x256_S128x256_768_0)
      (inv_read arg1 arg2 arg6 arg7 f1 f2 k 6 6 rfl inb_S8x256_S1x256_6_0))) x
    dsimp only [trip.sl.r_17, k0_pay1, k0_pay67, trip.sl.v492, trip.sl.v493, k0_pay60]
  refine List.forall_mem_cons.2 ⟨?_, ?_⟩
  · intro x
    refine codesOut_piece (arg1.view.read (Elt F) f1) (arg2.view.read (Elt F) f2) k 5 (k0_off3_inb k 5) _ (Eq.trans ?_ (codeT_eq k _ _ 5 _ _
      (y_read arg1 arg2 arg5 f1 f2 k 5 640 rfl inb_S1024x256_S128x256_640_0)
      (inv_read arg1 arg2 arg6 arg7 f1 f2 k 5 5 rfl inb_S8x256_S1x256_5_0))) x
    dsimp only [k0_pay66, trip.sl.v476, trip.sl.v477, k0_pay60]
  refine List.forall_mem_cons.2 ⟨?_, ?_⟩
  · intro x
    refine codesOut_piece (arg1.view.read (Elt F) f1) (arg2.view.read (Elt F) f2) k 4 (k0_off3_inb k 4) _ (Eq.trans ?_ (codeT_eq k _ _ 4 _ _
      (y_read arg1 arg2 arg5 f1 f2 k 4 512 rfl inb_S1024x256_S128x256_512_0)
      (inv_read arg1 arg2 arg6 arg7 f1 f2 k 4 4 rfl inb_S8x256_S1x256_4_0))) x
    dsimp only [trip.sl.r_16, trip.sl.cst_243, trip.sl.cst_244, k0_pay64, k0_pay65, trip.sl.v460, trip.sl.v461, k0_pay60]
  refine List.forall_mem_cons.2 ⟨?_, ?_⟩
  · intro x
    refine codesOut_piece (arg1.view.read (Elt F) f1) (arg2.view.read (Elt F) f2) k 3 (k0_off3_inb k 3) _ (Eq.trans ?_ (codeT_eq k _ _ 3 _ _
      (y_read arg1 arg2 arg5 f1 f2 k 3 384 rfl inb_S1024x256_S128x256_384_0)
      (inv_read arg1 arg2 arg6 arg7 f1 f2 k 3 3 rfl inb_S8x256_S1x256_3_0))) x
    dsimp only [k0_pay63, trip.sl.v444, trip.sl.v445, k0_pay60]
  refine List.forall_mem_cons.2 ⟨?_, ?_⟩
  · intro x
    refine codesOut_piece (arg1.view.read (Elt F) f1) (arg2.view.read (Elt F) f2) k 2 (k0_off3_inb k 2) _ (Eq.trans ?_ (codeT_eq k _ _ 2 _ _
      (y_read arg1 arg2 arg5 f1 f2 k 2 256 rfl inb_S1024x256_S128x256_256_0)
      (inv_read arg1 arg2 arg6 arg7 f1 f2 k 2 2 rfl inb_S8x256_S1x256_2_0))) x
    dsimp only [k0_pay62, trip.sl.v428, trip.sl.v429, k0_pay60]
  refine List.forall_mem_cons.2 ⟨?_, ?_⟩
  · intro x
    refine codesOut_piece (arg1.view.read (Elt F) f1) (arg2.view.read (Elt F) f2) k 1 (k0_off3_inb k 1) _ (Eq.trans ?_ (codeT_eq k _ _ 1 _ _
      (y_read arg1 arg2 arg5 f1 f2 k 1 128 rfl inb_S1024x256_S128x256_128_0)
      (inv_read arg1 arg2 arg6 arg7 f1 f2 k 1 1 rfl inb_S8x256_S1x256_1_0))) x
    dsimp only [k0_pay61, trip.sl.v412, trip.sl.v413, k0_pay60]
  refine List.forall_mem_cons.2 ⟨?_, ?_⟩
  · intro x
    refine codesOut_piece (arg1.view.read (Elt F) f1) (arg2.view.read (Elt F) f2) k 0 (k0_off3_inb k 0) _ (Eq.trans ?_ (codeT_eq k _ _ 0 _ _
      (y_read arg1 arg2 arg5 f1 f2 k 0 0 rfl inb_S1024x256_S128x256_0_0)
      (inv_read arg1 arg2 arg6 arg7 f1 f2 k 0 0 rfl inb_S8x256_S1x256_0_0))) x
    dsimp only [trip.sl.v396, trip.sl.v397, k0_pay60]
  exact fun _ h => absurd h List.not_mem_nil

theorem scales_agree : ∀ p ∈ (trip (F := F) c i arg1 harg1 arg2 harg2 arg3 harg3 arg4 harg4 arg5 harg5 arg6 harg6 arg7 harg7 f1 f2 k).1.2,
    ∀ x, p.2 x = scalesOut (arg1.view.read (Elt F) f1) (arg2.view.read (Elt F) f2) (p.1.emb x) := by
  unfold trip
  dsimp only
  refine List.forall_mem_cons.2 ⟨?_, fun _ h => absurd h List.not_mem_nil⟩
  intro x
  refine scalesOut_piece _ _ k (k0_off2_inb k) (k0_pay57 _ _ _) ?_ x
  rw [a_eq, e_eq]
  rfl

end Cert.Proof.KernelIdeal
-- ==== Proof.Ideal.Body.lean ====
/-
  The kernel's body: what its loop leaves in the output blocks, and its triple.
-/
module

public import proofs.«01_k».proof.Proof.Ideal.Agree
public import Idealize.ShloMosaic.Lib.Claim
public import Idealize.ShloMosaic.Lib.Pipeline.ValueKit

@[expose] public section

set_option maxRecDepth 16384

noncomputable section

namespace Cert.Proof.KernelIdeal

open Cert.KernelIdeal Cert.KernelIdeal.Gen
open Idealize.ShloMosaic hiding ix1 ix2 ix3 ix4 ix5 ix6 eq_ix1 eq_ix2 eq_ix3 eq_ix4
open Idealize.ShloMosaic.TcCoe Idealize.ShloMosaic.Tactic
open Idealize.SL Idealize.SL.RA Idealize.SL.BI
open scoped Idealize.SL.BI
open Idealize.ShloMosaic.ValueIdx Idealize.ShloMosaic.ValueKit
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Pieces

variable (c : Dev nD) (i : grid0.Coords)
  (arg1 : Memref sig .tc .vmem S256x256 .bf16) (harg1 : arg1.IsWhole)
  (arg2 : Memref sig .tc .vmem S256x10240 .bf16) (harg2 : arg2.IsWhole)
  (arg3 : Memref sig .tc .vmem S256x5120 .fp8e4m3) (harg3 : arg3.IsWhole)
  (arg4 : Memref sig .tc .vmem S1x40x256 .f32) (harg4 : arg4.IsWhole)
  (arg5 : Memref sig .tc .vmem S1024x256 .f32) (harg5 : arg5.IsWhole)
  (arg6 : Memref sig .tc .vmem S2x64x128 .f32) (harg6 : arg6.IsWhole)
  (arg7 : Memref sig .tc .vmem S8x256 .f32) (harg7 : arg7.IsWhole)

variable (f1 : BufTy.Contents (Elt F) arg1.view.ty) (f2 : BufTy.Contents (Elt F) arg2.view.ty)

/-! ## The pieces of all the trips -/

/-- Each of the eight groups' codes is among a trip's pieces. -/
theorem trip_codes_mem (k : Fin k0_t1_loop.trips) (j : Fin 8) :
    ∃ p ∈ (trip (F := F) c i arg1 harg1 arg2 harg2 arg3 harg3 arg4 harg4 arg5 harg5 arg6 harg6 arg7 harg7 f1 f2 k).1.1, p.1 = Rect.unit (s := S256x5120) (k0_off3 k (BitVec.ofNat 32 j.val)) S256x128.size (k0_off3_inb k j) := by
  unfold trip
  match j with
  | ⟨0, _⟩ => exact ⟨_, List.mem_of_getElem? (i := 7) rfl, rfl⟩
  | ⟨1, _⟩ => exact ⟨_, List.mem_of_getElem? (i := 6) rfl, rfl⟩
  | ⟨2, _⟩ => exact ⟨_, List.mem_of_getElem? (i := 5) rfl, rfl⟩
  | ⟨3, _⟩ => exact ⟨_, List.mem_of_getElem? (i := 4) rfl, rfl⟩
  | ⟨4, _⟩ => exact ⟨_, List.mem_of_getElem? (i := 3) rfl, rfl⟩
  | ⟨5, _⟩ => exact ⟨_, List.mem_of_getElem? (i := 2) rfl, rfl⟩
  | ⟨6, _⟩ => exact ⟨_, List.mem_of_getElem? (i := 1) rfl, rfl⟩
  | ⟨7, _⟩ => exact ⟨_, List.mem_of_getElem? (i := 0) rfl, rfl⟩

/-- A trip's pieces hold every column of its band of the codes' block. -/
theorem trip_codes_cover (k : Fin k0_t1_loop.trips) (y : S256x5120.Idx) (h : 1024 * k.val ≤ (y 1).val) (h' : (y 1).val < 1024 * (k.val + 1)) :
    ∃ p ∈ (trip (F := F) c i arg1 harg1 arg2 harg2 arg3 harg3 arg4 harg4 arg5 harg5 arg6 harg6 arg7 harg7 f1 f2 k).1.1, y ∈ p.1.set := by
  have h0 := (y 0).isLt; change (y 0).val < 256 at h0
  obtain ⟨p, hp, e⟩ := trip_codes_mem (F := F) c i arg1 harg1 arg2 harg2 arg3 harg3 arg4 harg4 arg5 harg5 arg6 harg6 arg7 harg7 f1 f2 k ⟨((y 1).val - 1024 * k.val) / 128, by omega⟩
  refine ⟨p, hp, ?_⟩
  rw [e, Rect.mem_set_unit]
  intro a
  have e := congrFun (k0_off3_eq k ⟨((y 1).val - 1024 * k.val) / 128, by omega⟩) a
  rw [e]
  match a with
  | ⟨0, _⟩ => exact ⟨Nat.zero_le _, by show (y 0).val < 0 + 256; omega⟩
  | ⟨1, _⟩ =>
    constructor
    · show 1024 * k.val + 128 * (((y 1).val - 1024 * k.val) / 128) ≤ (y 1).val; omega
    · show (y 1).val < 1024 * k.val + 128 * (((y 1).val - 1024 * k.val) / 128) + 128; omega

/-- A trip's piece holds every row of its band of the scales' block. -/
theorem trip_scales_cover (k : Fin k0_t1_loop.trips) (y : S1x40x256.Idx) (h : 8 * k.val ≤ (y 1).val) (h' : (y 1).val < 8 * (k.val + 1)) :
    ∃ p ∈ (trip (F := F) c i arg1 harg1 arg2 harg2 arg3 harg3 arg4 harg4 arg5 harg5 arg6 harg6 arg7 harg7 f1 f2 k).1.2, y ∈ p.1.set := by
  have h0 := (y 0).isLt; change (y 0).val < 1 at h0
  have h2 := (y 2).isLt; change (y 2).val < 256 at h2
  unfold trip
  refine ⟨_, List.mem_cons_self, ?_⟩
  refine (Rect.mem_set_unit (s := S1x40x256) (inb := k0_off2_inb k)).2 fun a => ?_
  rw [congrFun (k0_off2_eq k) a]
  match a with
  | ⟨0, _⟩ => exact ⟨Nat.zero_le _, by show (y 0).val < 0 + 1; omega⟩
  | ⟨1, _⟩ => exact ⟨h, by show (y 1).val < 8 * k.val + 8; omega⟩
  | ⟨2, _⟩ => exact ⟨Nat.zero_le _, by show (y 2).val < 0 + 256; omega⟩

/-- Before trip `n` the pieces stored agree with the blocks, and hold the bands of the trips before. -/
theorem pb_spec (n : ℕ) (hn : n ≤ 5) :
    (∀ p ∈ (pb (F := F) c i arg1 harg1 arg2 harg2 arg3 harg3 arg4 harg4 arg5 harg5 arg6 harg6 arg7 harg7 f1 f2 n).1, ∀ x, p.2 x = codesOut (arg1.view.read (Elt F) f1) (arg2.view.read (Elt F) f2) (p.1.emb x))
    ∧ (∀ p ∈ (pb (F := F) c i arg1 harg1 arg2 harg2 arg3 harg3 arg4 harg4 arg5 harg5 arg6 harg6 arg7 harg7 f1 f2 n).2, ∀ x, p.2 x = scalesOut (arg1.view.read (Elt F) f1) (arg2.view.read (Elt F) f2) (p.1.emb x))
    ∧ (∀ y : S256x5120.Idx, (y 1).val < 1024 * n → ∃ p ∈ (pb (F := F) c i arg1 harg1 arg2 harg2 arg3 harg3 arg4 harg4 arg5 harg5 arg6 harg6 arg7 harg7 f1 f2 n).1, y ∈ p.1.set)
    ∧ (∀ y : S1x40x256.Idx, (y 1).val < 8 * n → ∃ p ∈ (pb (F := F) c i arg1 harg1 arg2 harg2 arg3 harg3 arg4 harg4 arg5 harg5 arg6 harg6 arg7 harg7 f1 f2 n).2, y ∈ p.1.set) := by
  induction n with
  | zero =>
    refine ⟨fun p h => absurd h List.not_mem_nil, fun p h => absurd h List.not_mem_nil, fun y h => absurd h (by omega), fun y h => absurd h (by omega)⟩
  | succ n ih =>
    obtain ⟨a, b, d, e⟩ := ih (by omega)
    have hs := pb_succ (F := F) c i arg1 harg1 arg2 harg2 arg3 harg3 arg4 harg4 arg5 harg5 arg6 harg6 arg7 harg7 f1 f2 (⟨n, by change n < 5; omega⟩ : Fin k0_t1_loop.trips)
    simp only at hs
    rw [hs]
    dsimp only
    refine ⟨fun p h => ?_, fun p h => ?_, fun y h => ?_, fun y h => ?_⟩
    · rcases List.mem_append.1 h with h | h
      · exact codes_agree (F := F) c i arg1 harg1 arg2 harg2 arg3 harg3 arg4 harg4 arg5 harg5 arg6 harg6 arg7 harg7 f1 f2 _ p h
      · exact a p h
    · rcases List.mem_append.1 h with h | h
      · exact scales_agree (F := F) c i arg1 harg1 arg2 harg2 arg3 harg3 arg4 harg4 arg5 harg5 arg6 harg6 arg7 harg7 f1 f2 _ p h
      · exact b p h
    · by_cases hy : (y 1).val < 1024 * n
      · obtain ⟨p, hp, h⟩ := d y hy
        exact ⟨p, List.mem_append_right _ hp, h⟩
      · obtain ⟨p, hp, h⟩ := trip_codes_cover (F := F) c i arg1 harg1 arg2 harg2 arg3 harg3 arg4 harg4 arg5 harg5 arg6 harg6 arg7 harg7 f1 f2 ⟨n, by change n < 5; omega⟩ y (by show 1024 * n ≤ _; omega) h
        exact ⟨p, List.mem_append_left _ hp, h⟩
    · by_cases hy : (y 1).val < 8 * n
      · obtain ⟨p, hp, h⟩ := e y hy
        exact ⟨p, List.mem_append_right _ hp, h⟩
      · obtain ⟨p, hp, h⟩ := trip_scales_cover (F := F) c i arg1 harg1 arg2 harg2 arg3 harg3 arg4 harg4 arg5 harg5 arg6 harg6 arg7 harg7 f1 f2 ⟨n, by change n < 5; omega⟩ y (by show 8 * n ≤ _; omega) h
        exact ⟨p, List.mem_append_left _ hp, h⟩

/-- After all the trips the codes' block reads `codesOut`, whatever it held. -/
theorem read_codes (g : BufTy.Contents (Elt F) arg3.view.ty) :
    arg3.view.read (Elt F) (arg3.view.writes (Elt F) g (pb (F := F) c i arg1 harg1 arg2 harg2 arg3 harg3 arg4 harg4 arg5 harg5 arg6 harg6 arg7 harg7 f1 f2 5).1)
      = codesOut (arg1.view.read (Elt F) f1) (arg2.view.read (Elt F) f2) := by
  obtain ⟨a, -, d, -⟩ := pb_spec (F := F) c i arg1 harg1 arg2 harg2 arg3 harg3 arg4 harg4 arg5 harg5 arg6 harg6 arg7 harg7 f1 f2 5 le_rfl
  have d' : ∀ y : S256x5120.Idx, ∃ p ∈ (pb (F := F) c i arg1 harg1 arg2 harg2 arg3 harg3 arg4 harg4 arg5 harg5 arg6 harg6 arg7 harg7 f1 f2 5).1, y ∈ p.1.set := fun y => d y (y 1).isLt
  rw [View.read_writes_eq_canon _ _ _ d']
  exact funext fun y => View.canon_apply_of_pieces _ _ a y (d' y)

/-- After all the trips the scales' block reads `scalesOut`, whatever it held. -/
theorem read_scales (g : BufTy.Contents (Elt F) arg4.view.ty) :
    arg4.view.read (Elt F) (arg4.view.writes (Elt F) g (pb (F := F) c i arg1 harg1 arg2 harg2 arg3 harg3 arg4 harg4 arg5 harg5 arg6 harg6 arg7 harg7 f1 f2 5).2)
      = scalesOut (arg1.view.read (Elt F) f1) (arg2.view.read (Elt F) f2) := by
  obtain ⟨-, b, -, e⟩ := pb_spec (F := F) c i arg1 harg1 arg2 harg2 arg3 harg3 arg4 harg4 arg5 harg5 arg6 harg6 arg7 harg7 f1 f2 5 le_rfl
  have e' : ∀ y : S1x40x256.Idx, ∃ p ∈ (pb (F := F) c i arg1 harg1 arg2 harg2 arg3 harg3 arg4 harg4 arg5 harg5 arg6 harg6 arg7 harg7 f1 f2 5).2, y ∈ p.1.set := fun y => e y (y 1).isLt
  rw [View.read_writes_eq_canon _ _ _ e']
  exact funext fun y => View.canon_apply_of_pieces _ _ b y (e' y)

end Pieces

/-! ## The body's triple -/

/-- The body, from the inputs' blocks at `x1`, `x2` and the other buffers at anything: the inputs' stay, the outputs' end at
    `codesOut` and `scalesOut` of them, the scratches at something. -/
theorem sound_kernel (c : Dev nD) (i : grid0.Coords)
    (arg1 : Memref sig .tc .vmem S256x256 .bf16) (harg1 : arg1.IsWhole) (arg2 : Memref sig .tc .vmem S256x10240 .bf16) (harg2 : arg2.IsWhole)
    (arg3 : Memref sig .tc .vmem S256x5120 .fp8e4m3) (harg3 : arg3.IsWhole) (arg4 : Memref sig .tc .vmem S1x40x256 .f32) (harg4 : arg4.IsWhole)
    (arg5 : Memref sig .tc .vmem S1024x256 .f32) (harg5 : arg5.IsWhole) (arg6 : Memref sig .tc .vmem S2x64x128 .f32) (harg6 : arg6.IsWhole)
    (arg7 : Memref sig .tc .vmem S8x256 .f32) (harg7 : arg7.IsWhole)
    (x1 : Vec F S256x256 .bf16) (x2 : Vec F S256x10240 .bf16) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2
            ∗ owns (c : Thread nD τ) arg3 fullShare (codesOut x1 x2) ∗ owns (c : Thread nD τ) arg4 fullShare (scalesOut x1 x2)
            ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) Set.univ
          (cc0_swiglu_fp8_quant i arg1 harg1 arg2 harg2 arg3 harg3 arg4 harg4 arg5 harg5 arg6 harg6 arg7 harg7) K := by
  simp only [cc0_swiglu_fp8_quant_eq_skeleton]; unfold cc0_swiglu_fp8_quant_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf1 hf2
  sl_exec
  sl_step
  iapply Hk
  isplitl [H1]
  · iexists f1
    isplitr [H1]
    · ipureintro; rfl
    · iexact H1
  isplitl [H2]
  · iexists f2
    isplitr [H2]
    · ipureintro; rfl
    · iexact H2
  isplitl [H3]
  · iexists _
    isplitr
    swap; · iexact H3
    ipureintro; exact read_codes (F := F) c i arg1 harg1 arg2 harg2 arg3 harg3 arg4 harg4 arg5 harg5 arg6 harg6 arg7 harg7 f1 f2 f3
  isplitl [H4]
  · iexists _
    isplitr
    swap; · iexact H4
    ipureintro; exact read_scales (F := F) c i arg1 harg1 arg2 harg2 arg3 harg3 arg4 harg4 arg5 harg5 arg6 harg6 arg7 harg7 f1 f2 f4
  isplitl [H5]
  · iexists _, _
    isplitr
    swap; · iexact H5
    ipureintro; rfl
  isplitl [H6]
  · iexists _, _
    isplitr
    swap; · iexact H6
    ipureintro; rfl
  iexists _, _
  isplitr
  swap; · iexact H7
  ipureintro; rfl

end Cert.Proof.KernelIdeal
-- ==== Proof.Ideal.Run.lean ====
/-
  The run of the kernel's program: the pipeline's proof data, its body's obligation, the launch and the frame.
-/
module

public import proofs.«01_k».proof.Proof.Ideal.Body
public import Idealize.ShloMosaic.Lib.Claim
public import Idealize.ShloMosaic.Lib.Pipeline.ValueKit

@[expose] public section

set_option maxRecDepth 16384

noncomputable section

namespace Cert.Proof.KernelIdeal

open Cert.KernelIdeal Cert.KernelIdeal.Gen
open Idealize.ShloMosaic hiding ix1 ix2 ix3 ix4 ix5 ix6 eq_ix1 eq_ix2 eq_ix3 eq_ix4
open Idealize.ShloMosaic.TcCoe Idealize.ShloMosaic.Tactic
open Idealize.SL Idealize.SL.RA Idealize.SL.BI
open scoped Idealize.SL.BI
open Idealize.ShloMosaic.ValueIdx Idealize.ShloMosaic.ValueKit
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The scratch buffers -/

/-- A whole buffer held at some contents is its whole memref owned at some value, -/
theorem whole_owns (c : Dev nD) {s : Space} {S : Shape} {e : EltTy} (a : Memref sig .tc s S e) (hset : a.view.set = Finset.univ) :
    (iprop(∃ f : Buf (Elt F) (a.view.loc (c : Thread nD τ)), (a.view.loc (c : Thread nD τ)) ↦{fullShare} f) : sProp 𝕄)
      ⊢ iprop(∃ d, owns (c : Thread nD τ) a fullShare d) := by
  unfold owns
  rw [hset]
  iintro ⟨%f, H⟩
  iexists _, f
  isplitr
  swap; · iexact H
  ipureintro; rfl

/-- and the other way. -/
theorem owns_whole (c : Dev nD) {s : Space} {S : Shape} {e : EltTy} (a : Memref sig .tc s S e) (hset : a.view.set = Finset.univ) :
    (iprop(∃ d, owns (c : Thread nD τ) a fullShare d) : sProp 𝕄)
      ⊢ iprop(∃ f : Buf (Elt F) (a.view.loc (c : Thread nD τ)), (a.view.loc (c : Thread nD τ)) ↦{fullShare} f) := by
  unfold owns
  rw [hset]
  iintro ⟨%d, %f, -, H⟩
  iexists f
  iexact H

/-- The three scratches, owned at something. -/
def scr (c : Dev nD) : sProp 𝕄 :=
  iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d))

theorem scr_of_rest (c : Dev nD) : (Pipeline.scopedRest (Ix := Unit) (Name := ℕ) (U := UR sig nD τ) (Lvl := ℕ) (Val := Elt F) spec0 c : sProp 𝕄) ⊢ scr c := by
  rw [scopedRest0_eq]; unfold scr
  iintro ⟨H0, H1, H2⟩
  isplitl [H0]
  · iapply (whole_owns (F := F) c (Memref.whole cc0_scratch0) (View.set_whole _)); iexact H0
  isplitl [H1]
  · iapply (whole_owns (F := F) c (Memref.whole cc0_scratch1) (View.set_whole _)); iexact H1
  iapply (whole_owns (F := F) c (Memref.whole cc0_scratch2) (View.set_whole _)); iexact H2

theorem rest_of_scr (c : Dev nD) : scr c ⊢ (Pipeline.scopedRest (Ix := Unit) (Name := ℕ) (U := UR sig nD τ) (Lvl := ℕ) (Val := Elt F) spec0 c : sProp 𝕄) := by
  rw [scopedRest0_eq]; unfold scr
  iintro ⟨H0, H1, H2⟩
  isplitl [H0]
  · iapply (owns_whole (F := F) c (Memref.whole cc0_scratch0) (View.set_whole _)); iexact H0
  isplitl [H1]
  · iapply (owns_whole (F := F) c (Memref.whole cc0_scratch1) (View.set_whole _)); iexact H1
  iapply (owns_whole (F := F) c (Memref.whole cc0_scratch2) (View.set_whole _)); iexact H2

/-! ## The pipeline's proof data -/

/-- The proof data of the one pipeline on core `c`: the arrays as the region finds them; after the body at point `t` each input's
    buffer at its block, the codes' at `codesOut` and the scales' at `scalesOut` of the input blocks; the scratches and the
    generator register at anything between the points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codesOut (iblk m c 0 t) (iblk m c 1 t)
    | ⟨3, _⟩ => scalesOut (iblk m c 0 t) (iblk m c 1 t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = codesOut (iblk m c 0 t) (iblk m c 1 t) := by dsimp only [dats]
theorem after0_3 (c : Dev nD) (t : Fin cfg0.N) : (dats m 0 c).after 3 t = scalesOut (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies, the scratches taken from the
    invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3]
  unfold Pipeline.ΦA
  iintro ⟨⟨HR, Hp⟩, Ho, ⟨%d0, H0⟩, ⟨%d1, H1⟩, ⟨%d2, H2⟩, ⟨%d3, H3⟩⟩
  ihave HS := (scr_of_rest (F := F) c) $$ HR
  unfold scr
  icases HS with ⟨S0, S1, S2⟩
  iapply (sound_kernel c (grid0.coords t) _ _ _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [S0]; · iexact S0
  isplitl [S1]; · iexact S1
  isplitl [S2]; · iexact S2
  iintro ⟨H0, H1, H2, H3, S0, S1, S2⟩
  isplitl [Hp S0 S1 S2]
  · isplitr [Hp]
    · iapply (rest_of_scr (F := F) c)
      unfold scr
      isplitl [S0]; · iexact S0
      isplitl [S1]; · iexact S1
      iexact S2
    · iexact Hp
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
/-- Every fair execution of the program ends, with every array of the pipeline at what the proof data gives it after the last
    point, every other buffer at what the host lines around the region leave in it, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- `run_main_quiescent` without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument array ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: the argument array ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Proof.KernelIdeal
-- ==== Proof.Swish.lean ====
/-
  The gated activation over the extended reals: the kernel's spelling by powers of two is the reference's by the exponential, it is
  a real number bounded by the product of its operands' magnitudes, and one over 448 is a small positive number.
-/
module

public import Idealize.ShloMosaic.PureOps.Ideal
public import Idealize.ShloMosaic.PureOps.Ideal.Laws
public import Idealize.ShloMosaic.Lib.IdealHost

@[expose] public section

noncomputable section

namespace Cert.Proof.Swish

open Idealize.ShloMosaic

/-- `g · sigmoid(g) · u`. -/
def sw (g u : EReal) : EReal := g * Ideal.div 1 (1 + Ideal.exp (-g)) * u

theorem exp2_eq_exp (g : ℝ) : Ideal.exp2 ((g : EReal) * ((-((Real.log 2)⁻¹) : ℝ) : EReal)) = Ideal.exp (-(g : EReal)) := by
  rw [← EReal.coe_mul, ← EReal.coe_neg, Ideal.exp2_coe, Ideal.exp_coe]
  congr 1
  have hl2 : Real.log 2 ≠ 0 := (Real.log_pos (by norm_num)).ne'
  show (2 : ℝ) ^ (g * -(Real.log 2)⁻¹) = Real.exp (-g)
  rw [Real.rpow_def_of_pos (by norm_num)]
  congr 1
  field_simp

/-- The kernel's spelling. -/
theorem sw_kernel (g : ℝ) (u : EReal) :
    (g : EReal) * Ideal.div 1 (1 + Ideal.exp2 ((g : EReal) * ((-((Real.log 2)⁻¹) : ℝ) : EReal))) * u = sw g u := by
  rw [exp2_eq_exp]; rfl

theorem sw_real (g u : ℝ) : sw g u = ((g * (1 / (1 + Real.exp (-g))) * u : ℝ) : EReal) := by
  have h : (1 + Real.exp (-g)) ≠ 0 := by positivity
  unfold sw
  rw [← EReal.coe_neg, Ideal.exp_coe, ← EReal.coe_one, ← EReal.coe_add, Ideal.div_coe h, ← EReal.coe_mul, ← EReal.coe_mul, ← EReal.coe_mul]
  congr 1
  ring

theorem sw_bound (g u : ℝ) : |g * (1 / (1 + Real.exp (-g))) * u| ≤ |g| * |u| := by
  have h : 0 < Real.exp (-g) := Real.exp_pos _
  rw [abs_mul, abs_mul]
  have h1 : |1 / (1 + Real.exp (-g))| ≤ 1 := by
    rw [abs_of_pos (by positivity), div_le_one (by positivity)]; linarith
  exact mul_le_mul_of_nonneg_right (mul_le_of_le_one_right (abs_nonneg _) h1) (abs_nonneg _)

/-- The product of two numbers of magnitude at most 2^64. -/
theorem sw_small {g u : ℝ} (hg : |g| ≤ 2 ^ 64) (hu : |u| ≤ 2 ^ 64) : ∃ y : ℝ, sw g u = (y : EReal) ∧ |y| ≤ 2 ^ 128 := by
  refine ⟨_, sw_real g u, (sw_bound g u).trans ?_⟩
  calc |g| * |u| ≤ 2 ^ 64 * 2 ^ 64 := mul_le_mul hg hu (abs_nonneg _) (by positivity)
    _ = 2 ^ 128 := by norm_num

/-- The factor that stands for one over 448. -/
theorem inv448_real : ∃ c : ℝ, Ideal.ofBits .f32 0x3B124925#32 = (c : EReal) ∧ 0 ≤ c ∧ c < 1 / 8 := by
  refine ⟨((2 ^ 23 + 1198373 : ℕ) : ℝ) * 2 ^ ((118 : ℤ) - (2 ^ (8 - 1) - 1) - 23), ?_, by positivity, by norm_num⟩
  simp [Ideal.ofBits, Ideal.ieee]

theorem absf_coe (y : ℝ) : max ((y : ℝ) : EReal) (-(y : EReal)) = ((|y| : ℝ) : EReal) := by
  rw [← EReal.coe_neg, ← EReal.coe_strictMono.monotone.map_max]; rfl

/-! ## One token's groups -/

/-- The column of group `q`'s gate `ch`, -/
def gcol (q : Fin 40) (ch : Fin 128) : Fin 10240 := ⟨256 * q.val + 2 * ch.val, by omega⟩

/-- and of its up. -/
def ucol (q : Fin 40) (ch : Fin 128) : Fin 10240 := ⟨256 * q.val + 2 * ch.val + 1, by omega⟩

/-- Channel `ch` of group `q` of a token whose gate and up pairs are `row`. -/
def act (row : Fin 10240 → EReal) (q : Fin 40) (ch : Fin 128) : EReal := sw (row (gcol q ch)) (row (ucol q ch))

/-- The group's largest magnitude. -/
def gmax (f : Fin 128 → EReal) : EReal := Finset.univ.sup fun ch => max (f ch) (-(f ch))

theorem gmax_le (f : Fin 128 → EReal) (b : EReal) : gmax f ≤ b ↔ ∀ ch, max (f ch) (-(f ch)) ≤ b := by
  unfold gmax; rw [Finset.sup_le_iff]; simp

theorem eq_gmax {f : Fin 128 → EReal} {a : EReal} (h : ∀ b, a ≤ b ↔ ∀ ch, max (f ch) (-(f ch)) ≤ b) : a = gmax f :=
  eq_of_forall_ge_iff fun b => (h b).trans (gmax_le f b).symm

/-- The group's largest magnitude over 448. -/
def gval (f : Fin 128 → EReal) : EReal := gmax f * Ideal.ofBits .f32 0x3B124925#32

/-- Where the channels are small, that is a real number far below the largest exponent. -/
theorem gval_real {f : Fin 128 → EReal} (h : ∀ ch, ∃ y : ℝ, f ch = (y : EReal) ∧ |y| ≤ 2 ^ 128) : ∃ r : ℝ, gval f = (r : EReal) ∧ 0 ≤ r ∧ r < 2 ^ 126 := by
  have hi : gmax f ≤ ((2 ^ 128 : ℝ) : EReal) := (gmax_le f _).2 fun ch => by
    obtain ⟨y, hy, hb⟩ := h ch
    rw [hy, absf_coe]; exact_mod_cast hb
  have lo : (0 : EReal) ≤ gmax f := by
    obtain ⟨y, hy, -⟩ := h 0
    have h0 := (gmax_le f _).1 le_rfl 0
    rw [hy, absf_coe] at h0
    exact le_trans (by exact_mod_cast abs_nonneg y) h0
  obtain ⟨a, ha⟩ : ∃ a : ℝ, gmax f = (a : EReal) :=
    ⟨(gmax f).toReal, (EReal.coe_toReal (ne_top_of_le_ne_top (EReal.coe_ne_top _) hi) (ne_bot_of_le_ne_bot EReal.zero_ne_bot lo)).symm⟩
  rw [ha] at hi lo
  have hi' : a ≤ 2 ^ 128 := by exact_mod_cast hi
  have lo' : 0 ≤ a := by exact_mod_cast lo
  obtain ⟨c, hc, c0, c1⟩ := inv448_real
  refine ⟨a * c, by unfold gval; rw [ha, hc, EReal.coe_mul], mul_nonneg lo' c0, ?_⟩
  calc a * c ≤ 2 ^ 128 * c := mul_le_mul_of_nonneg_right hi' c0
    _ < 2 ^ 128 * (1 / 8) := mul_lt_mul_of_pos_left c1 (by positivity)
    _ < 2 ^ 126 := by norm_num

/-- The activations of a token whose entries are small are small. -/
theorem act_small {row : Fin 10240 → EReal} (h : ∀ n, ∃ r : ℝ, row n = (r : EReal) ∧ |r| ≤ 2 ^ 64) (q : Fin 40) (ch : Fin 128) :
    ∃ y : ℝ, act row q ch = (y : EReal) ∧ |y| ≤ 2 ^ 128 := by
  obtain ⟨g, hg, bg⟩ := h (gcol q ch)
  obtain ⟨u, hu, bu⟩ := h (ucol q ch)
  unfold act
  rw [hg, hu]
  exact sw_small bg bu

end Cert.Proof.Swish
-- ==== Proof.Exponent.lean ====
/-
  The exponent field of a value over the extended reals: the kernel's search for it among the powers of two, and the powers of two
  it stands for, against the reference's logarithm and power.
-/
module

public import Idealize.ShloMosaic.PureOps.Ideal
public import Idealize.ShloMosaic.PureOps.Ideal.Laws
public import Idealize.ShloMosaic.Lib.IdealHost

@[expose] public section

noncomputable section

namespace Cert.Proof.Exponent

open Idealize.ShloMosaic

/-! ## What a pattern with an empty fraction denotes -/

/-- The value whose exponent field is `n` and whose fraction is zero. -/
def pw (n : ℕ) : EReal := if n = 0 then 0 else if n < 255 then (((2 : ℝ) ^ ((n : ℤ) - 127) : ℝ) : EReal) else ⊤

theorem ofBits_pw (n : ℕ) (h : n ≤ 255) : Ideal.ofBits .f32 (BitVec.ofNat 32 (n * 8388608)) = pw n := by
  have hb : (BitVec.ofNat 32 (n * 8388608)).toNat = n * 8388608 := by
    rw [BitVec.toNat_ofNat]; omega
  have hneg : ((BitVec.ofNat 32 (n * 8388608)).extractLsb' (8 + 23) 1 == 1#1) = false := by
    rw [beq_eq_false_iff_ne]
    intro hc
    have := congrArg BitVec.toNat hc
    rw [BitVec.extractLsb'_toNat, hb, Nat.shiftRight_eq_div_pow] at this
    simp at this
    omega
  have hex : ((BitVec.ofNat 32 (n * 8388608)).extractLsb' 23 8).toNat = n := by
    rw [BitVec.extractLsb'_toNat, hb, Nat.shiftRight_eq_div_pow]; omega
  have hfr : ((BitVec.ofNat 32 (n * 8388608)).extractLsb' 0 23).toNat = 0 := by
    rw [BitVec.extractLsb'_toNat, hb, Nat.shiftRight_eq_div_pow]; omega
  unfold Ideal.ofBits Ideal.ieee pw
  simp only [hneg, hex, hfr]
  by_cases h0 : n = 0
  · subst h0; simp
  · by_cases h1 : n < 255
    · rw [if_neg (by omega), if_neg h0, if_neg h0, if_pos h1]
      congr 1
      have e : ((n : ℤ) - 127) = 23 + ((n : ℤ) - (2 ^ (8 - 1) - 1) - (23 : ℕ)) := by norm_num
      rw [e, zpow_add₀ (by norm_num)]
      norm_num
    · rw [if_pos (by omega), if_neg h0, if_neg h1]
      simp

theorem pw_real {n : ℕ} (h0 : n ≠ 0) (h : n < 255) : pw n = (((2 : ℝ) ^ ((n : ℤ) - 127) : ℝ) : EReal) := by
  unfold pw; rw [if_neg h0, if_pos h]

theorem pw_mono {n k : ℕ} (h : n ≤ k) : pw n ≤ pw k := by
  by_cases hn : n = 0
  · subst hn
    unfold pw
    rw [if_pos rfl]
    split
    · exact le_rfl
    · split
      · exact_mod_cast (zpow_pos (by norm_num : (0 : ℝ) < 2) _).le
      · exact le_top
  · by_cases hk : k < 255
    · rw [pw_real hn (by omega), pw_real (by omega) hk, EReal.coe_le_coe_iff]
      exact zpow_le_zpow_right₀ (by norm_num) (by omega)
    · unfold pw
      rw [if_neg (by omega : k ≠ 0), if_neg hk]
      exact le_top

/-! ## The search -/

/-- One step: the field grown by `d` where the value is at least what the grown field denotes. -/
def stp (v : EReal) (e d : BitVec 32) : BitVec 32 := if Ideal.ofBits .f32 (e + d) ≤ v then e + d else e

/-- Eight steps, from the field's highest bit down. -/
def search (v : EReal) : BitVec 32 :=
  stp v (stp v (stp v (stp v (stp v (stp v (stp v (stp v 0#32 1073741824#32) 536870912#32) 268435456#32) 134217728#32) 67108864#32) 33554432#32)
    16777216#32) 8388608#32

/-- `e` is the field `n`, which is right up to the bits below `w`. -/
def Upto (v : EReal) (w : ℕ) (e : BitVec 32) : Prop :=
  ∃ n : ℕ, e = BitVec.ofNat 32 (n * 8388608) ∧ n + w ≤ 256 ∧ pw n ≤ v ∧ (n + w < 256 → v < pw (n + w))

theorem stp_upto {v : EReal} {w : ℕ} (hw : 0 < w) {e : BitVec 32} (h : Upto v (w + w) e) : Upto v w (stp v e (BitVec.ofNat 32 (w * 8388608))) := by
  obtain ⟨n, rfl, hn, hlo, hhi⟩ := h
  have hadd : BitVec.ofNat 32 (n * 8388608) + BitVec.ofNat 32 (w * 8388608) = BitVec.ofNat 32 ((n + w) * 8388608) := by
    rw [← BitVec.ofNat_add, Nat.add_mul]
  unfold stp
  rw [hadd, ofBits_pw (n + w) (by omega)]
  by_cases hc : pw (n + w) ≤ v
  · rw [if_pos hc]
    exact ⟨n + w, rfl, by omega, hc, fun h => by rw [Nat.add_assoc]; exact hhi (by omega)⟩
  · rw [if_neg hc]
    exact ⟨n, rfl, by omega, hlo, fun _ => lt_of_not_ge hc⟩

theorem search_upto {v : EReal} (h : 0 ≤ v) : Upto v 1 (search v) := by
  have h0 : Upto v (128 + 128) 0#32 := ⟨0, rfl, le_rfl, by unfold pw; rw [if_pos rfl]; exact h, fun h => absurd h (by omega)⟩
  have h1 : Upto v (64 + 64) _ := stp_upto (by omega) h0
  have h2 : Upto v (32 + 32) _ := stp_upto (by omega) h1
  have h3 : Upto v (16 + 16) _ := stp_upto (by omega) h2
  have h4 : Upto v (8 + 8) _ := stp_upto (by omega) h3
  have h5 : Upto v (4 + 4) _ := stp_upto (by omega) h4
  have h6 : Upto v (2 + 2) _ := stp_upto (by omega) h5
  have h7 : Upto v (1 + 1) _ := stp_upto (by omega) h6
  exact stp_upto (by omega) h7

/-- Zero and infinity take the field of one half. -/
def fix (e : BitVec 32) : BitVec 32 := if e = 0#32 ∨ e = 2139095040#32 then 1056964608#32 else e

/-! ## The reference's exponent -/

/-- The reference's exponent of `v`: one above the whole part of its logarithm, zero below the smallest normal value. -/
def refExp (v : EReal) : EReal :=
  if v < Ideal.ofBits .f32 0x00800000#32 then Ideal.ofBits .f32 0x00000000#32
  else Ideal.liftRound Int.floor (Ideal.div (Ideal.log v) (Ideal.log (Ideal.ofBits .f32 0x40000000#32))) + Ideal.ofBits .f32 0x3F800000#32

/-- The reference's scale, -/
def scaleOf (v : EReal) : EReal := Ideal.pow (Ideal.ofBits .f32 0x40000000#32) (refExp v)

/-- and its inverse. -/
def invOf (v : EReal) : EReal := Ideal.pow (Ideal.ofBits .f32 0x40000000#32) (-(refExp v))

/-- The value kept in eight bits: a channel times the inverse scale, clipped to ±448. -/
def codeOf (y v : EReal) : EReal := min (Ideal.ofBits .f32 0x43E00000#32) (max (Ideal.ofBits .f32 0xC3E00000#32) (y * invOf v))

theorem ofBits_two : Ideal.ofBits .f32 0x40000000#32 = ((2 : ℝ) : EReal) := by
  rw [show (0x40000000#32 : BitVec 32) = BitVec.ofNat 32 (128 * 8388608) from rfl, ofBits_pw 128 (by omega), pw_real (by omega) (by omega)]
  norm_num

theorem ofBits_tiny : Ideal.ofBits .f32 0x00800000#32 = pw 1 := ofBits_pw 1 (by omega)

theorem pow_two_int (z : ℤ) : Ideal.pow ((2 : ℝ) : EReal) (((z : ℝ)) : EReal) = (((2 : ℝ) ^ z : ℝ) : EReal) := by
  rw [Ideal.pow_coe_coe]
  exact congrArg _ (Real.rpow_intCast 2 z)

/-- The reference's exponent is the field less 126, where the field is not zero. -/
theorem refExp_of_field {r : ℝ} {n : ℕ} (h0 : n ≠ 0) (hn : n < 254) (hlo : pw n ≤ (r : EReal)) (hhi : (r : EReal) < pw (n + 1)) :
    refExp r = ((((n : ℤ) - 126 : ℤ) : ℝ) : EReal) := by
  have h1 : ¬ ((r : EReal) < pw 1) := not_lt.2 ((pw_mono (by omega)).trans hlo)
  rw [pw_real h0 (by omega), EReal.coe_le_coe_iff] at hlo
  rw [pw_real (by omega) (by omega), EReal.coe_lt_coe_iff] at hhi
  have hr : 0 < r := lt_of_lt_of_le (zpow_pos (by norm_num) _) hlo
  have hl2 : 0 < Real.log 2 := Real.log_pos (by norm_num)
  unfold refExp
  rw [ofBits_tiny, if_neg h1, ofBits_two, Ideal.log_coe, Ideal.log_coe, if_neg (not_le.2 hr), if_neg (by norm_num),
    Ideal.div_coe hl2.ne', ← EReal.coe_mul, Ideal.liftRound_coe, Ideal.ofBits_one_f32]
  have hf : ⌊Real.log r * (1 / Real.log 2)⌋ = (n : ℤ) - 127 := by
    rw [Int.floor_eq_iff, mul_one_div]
    constructor
    · rw [le_div_iff₀ hl2, ← Real.log_zpow]
      exact Real.log_le_log (zpow_pos (by norm_num) _) hlo
    · rw [div_lt_iff₀ hl2]
      have : (((n : ℤ) - 127 : ℤ) : ℝ) + 1 = ((((n + 1 : ℕ) : ℤ) - 127 : ℤ) : ℝ) := by push_cast; ring
      rw [this, ← Real.log_zpow]
      exact Real.log_lt_log hr hhi
  rw [hf, ← EReal.coe_one, ← EReal.coe_add]
  congr 1
  push_cast; ring

theorem refExp_of_tiny {v : EReal} (h : v < pw 1) : refExp v = ((0 : ℝ) : EReal) := by
  unfold refExp
  rw [ofBits_tiny, if_pos h, Ideal.ofBits_zero_f32]; rfl

/-! ## The two agree -/

theorem field_spec {r : ℝ} (h0 : 0 ≤ r) (h1 : r < 2 ^ 126) :
    ∃ n : ℕ, search r = BitVec.ofNat 32 (n * 8388608) ∧ n ≤ 252 ∧ pw n ≤ (r : EReal) ∧ (r : EReal) < pw (n + 1) := by
  obtain ⟨n, he, hn, hlo, hhi⟩ := search_upto (v := (r : EReal)) (by exact_mod_cast h0)
  have hb : n ≤ 252 := by
    by_contra hc
    have h := (pw_mono (by omega : 253 ≤ n)).trans hlo
    rw [pw_real (by omega) (by omega), EReal.coe_le_coe_iff] at h
    norm_num at h
    norm_num at h1
    linarith
  exact ⟨n, he, hb, hlo, hhi (by omega)⟩

/-- The kernel's scale is the reference's. -/
theorem scale_eq {r : ℝ} (h0 : 0 ≤ r) (h1 : r < 2 ^ 126) : Ideal.ofBits .f32 (fix (search r) + 8388608#32) = scaleOf r := by
  obtain ⟨n, he, hn, hlo, hhi⟩ := field_spec h0 h1
  unfold scaleOf
  rw [he]
  by_cases hz : n = 0
  · subst hz
    rw [refExp_of_tiny hhi, ofBits_two, show ((0 : ℝ) : EReal) = (((0 : ℤ) : ℝ) : EReal) by norm_num, pow_two_int]
    rw [show fix (BitVec.ofNat 32 (0 * 8388608)) + 8388608#32 = BitVec.ofNat 32 (127 * 8388608) from by decide, ofBits_pw 127 (by omega),
      pw_real (by omega) (by omega)]
    norm_num
  · rw [refExp_of_field hz (by omega) hlo hhi, ofBits_two, pow_two_int]
    have hf : fix (BitVec.ofNat 32 (n * 8388608)) = BitVec.ofNat 32 (n * 8388608) := by
      unfold fix
      refine if_neg ?_
      rintro (h | h) <;> · have := congrArg BitVec.toNat h; simp only [BitVec.toNat_ofNat] at this; omega
    rw [hf, show (8388608#32 : BitVec 32) = BitVec.ofNat 32 (1 * 8388608) from rfl, ← BitVec.ofNat_add, ← Nat.add_mul, ofBits_pw (n + 1) (by omega),
      pw_real (by omega) (by omega)]
    congr 2
    push_cast; ring

/-- The kernel's inverse is the reference's. -/
theorem inv_eq {r : ℝ} (h0 : 0 ≤ r) (h1 : r < 2 ^ 126) : Ideal.ofBits .f32 (2122317824#32 - fix (search r)) = invOf r := by
  obtain ⟨n, he, hn, hlo, hhi⟩ := field_spec h0 h1
  unfold invOf
  rw [he]
  by_cases hz : n = 0
  · subst hz
    rw [refExp_of_tiny hhi, ofBits_two, ← EReal.coe_neg, show (-(0 : ℝ)) = (((0 : ℤ) : ℝ)) by norm_num, pow_two_int]
    rw [show 2122317824#32 - fix (BitVec.ofNat 32 (0 * 8388608)) = BitVec.ofNat 32 (127 * 8388608) from by decide, ofBits_pw 127 (by omega),
      pw_real (by omega) (by omega)]
    norm_num
  · rw [refExp_of_field hz (by omega) hlo hhi, ofBits_two, ← EReal.coe_neg, ← Int.cast_neg, pow_two_int]
    have hf : fix (BitVec.ofNat 32 (n * 8388608)) = BitVec.ofNat 32 (n * 8388608) := by
      unfold fix
      refine if_neg ?_
      rintro (h | h) <;> · have := congrArg BitVec.toNat h; simp only [BitVec.toNat_ofNat] at this; omega
    have hs : 2122317824#32 - BitVec.ofNat 32 (n * 8388608) = BitVec.ofNat 32 ((253 - n) * 8388608) := by
      apply BitVec.eq_of_toNat_eq
      rw [BitVec.toNat_sub, BitVec.toNat_ofNat, BitVec.toNat_ofNat, BitVec.toNat_ofNat]
      omega
    rw [hf, hs, ofBits_pw (253 - n) (by omega), pw_real (by omega) (by omega)]
    congr 2
    omega

end Cert.Proof.Exponent
-- ==== Proof.Group.lean ====
/-
  One group of 128 channels over the extended reals: the product with the selection matrix picks gate and up, the activation is the
  reference's, and the group's largest magnitude is the least bound of the 128 channels.
-/
module

public import proofs.«01_k».proof.Proof.Ideal.Pieces
public import proofs.«01_k».proof.Proof.Swish
public import proofs.«01_k».proof.Proof.Exponent
public import Idealize.ShloMosaic.Lib.MatmulPlain
public import Idealize.ShloMosaic.Lib.IdealHost

@[expose] public section

set_option maxRecDepth 16384

noncomputable section

namespace Cert.Proof.KernelIdeal

open Cert.KernelIdeal Cert.KernelIdeal.Gen
open Idealize.ShloMosaic hiding ix1 ix2 ix3 ix4 ix5 ix6 eq_ix1 eq_ix2 eq_ix3 eq_ix4
open Idealize.ShloMosaic.ValueIdx Idealize.ShloMosaic.ValueKit
open Cert.Proof.Swish

/-! ## The selection -/

/-- The selection matrix's entries: row `r` picks column `2·(r mod 128) + r / 128`. -/
def IsSel (x1 : Vec Ideal S256x256 .bf16) : Prop :=
  ∀ r q : Fin 256, (x1 (ix2 r q) : EReal) = if q.val = 2 * (r.val % 128) + r.val / 128 then 1 else 0

/-- A product with the selection matrix, read at row `r` and column `t`, is the picked entry of row `t`. -/
theorem select_apply_ideal (x1 b : Vec Ideal S256x256 .bf16) (h : IsSel x1) (acc : FVec Ideal S256x256 .f32) (r t q : Fin 256)
    (hacc : (acc (ix2 r t) : EReal) = 0) (hq : q.val = 2 * (r.val % 128) + r.val / 128) :
    (matmul (φ₁ := .bf16) (φ₂ := .bf16) dot_S256x256_S256x256_S256x256_1_1_0_0_n_n none x1 b acc (ix2 r t) : EReal) = b (ix2 t q) := by
  refine (Ideal.matmul_transposedRhs_apply (M := 256) (K := 256) (N := 256) none x1 b acc r t).trans ?_
  rw [Finset.sum_eq_single q]
  · have hs : (x1 (ix2 r q) : EReal) = 1 := by rw [h r q, if_pos hq]
    refine (congrArg₂ (· + ·) hacc (congrArg (· * (b (ix2 t q) : EReal)) hs)).trans ?_
    show (0 : EReal) + 1 * _ = _
    rw [zero_add, one_mul]
  · intro k _ hk
    have hs : (x1 (ix2 r k) : EReal) = 0 := by
      rw [h r k, if_neg]; intro hc; exact hk (Fin.ext (hc.trans hq.symm))
    refine (congrArg (· * (b (ix2 t k) : EReal)) hs).trans ?_
    show (0 : EReal) * _ = _
    rw [zero_mul]
  · intro hc; exact absurd (Finset.mem_univ _) hc

/-! ## The channels -/

section Channels

variable (x1 : Vec Ideal S256x256 .bf16) (x2 : Vec Ideal S256x10240 .bf16) (k : Fin k0_t1_loop.trips) (j : Fin 8)

/-- Column `n` of group `j`. -/
theorem blk_apply (t q : Fin 256) (n : Fin 10240) (hn : n.val = 2048 * k.val + 256 * j.val + q.val) : blk x2 k j (ix2 t q) = x2 (ix2 t n) := by
  unfold blk View.ld
  refine congrArg x2 ((eq_ix2 _).trans ?_)
  congr 1
  · exact Fin.ext ((rect_emb_unit_val _ _ _ _ _).trans ((congrArg (· + t.val) (congrFun (k0_off1_eq k j) 0)).trans (Nat.zero_add _)))
  · exact Fin.ext ((rect_emb_unit_val _ _ _ _ _).trans ((congrArg (· + q.val) (congrFun (k0_off1_eq k j) 1)).trans hn.symm))

theorem sel_apply (r q : Fin 256) : sel x1 (ix2 r q) = x1 (ix2 r q) := by
  unfold sel View.ld
  refine congrArg x1 ((eq_ix2 _).trans ?_)
  congr 1
  · exact Fin.ext ((rect_emb_unit_val _ _ _ _ _).trans (Nat.zero_add _))
  · exact Fin.ext ((rect_emb_unit_val _ _ _ _ _).trans (Nat.zero_add _))

/-- The block's entries are real, of magnitude at most 2^64. -/
def Small {s : Shape} (x : Vec Ideal s .bf16) : Prop := ∀ i : s.Idx, ∃ r : ℝ, (x i : EReal) = (r : EReal) ∧ |r| ≤ 2 ^ 64

theorem neg_log2_e : (Named.named (F := Ideal) κ "neg_log2_e" (φ := .f32) 0xBFB8AA3B#32 : EReal) = ((-((Real.log 2)⁻¹) : ℝ) : EReal) :=
  IdealRules.named_const.ideal_named_scalar _ _ _ _ rfl

/-- Channel `ch` of group `j` at token `t`: the activation of the gate and up columns. -/
theorem yT_apply (h : IsSel x1) (hx : Small x2) (ch : Fin 128) (t : Fin 256) (n n' : Fin 10240)
    (hn : n.val = 2048 * k.val + 256 * j.val + 2 * ch.val) (hn' : n'.val = n.val + 1) :
    (yT x1 x2 k j (ix2 ch t) : EReal) = sw (x2 (ix2 t n)) (x2 (ix2 t n')) := by
  have hs : IsSel (sel x1) := fun r q => (sel_apply x1 r q).trans (h r q)
  have hc := ch.isLt
  have e0 : (extractStridedSlice S128x256 ![0, 0] (matmul (φ₁ := .bf16) (φ₂ := .bf16) dot_S256x256_S256x256_S256x256_1_1_0_0_n_n none (sel x1)
      (shapeCast S256x256 (blk x2 k j : FVec Ideal S256x256 .bf16) shapeCasts_S256x256_S256x256) (constant S256x256 .f32 0x00000000#32)) slices_S256x256_o0_0_S128x256 (ix2 ch t) : EReal)
      = x2 (ix2 t n) := by
    rw [shapeCast_self]
    refine (extractStridedSlice_apply _ _ _ (ix2 ch t) (ix2 (⟨ch.val, by omega⟩ : Fin 256) t) ?_).trans ?_
    · intro a
      match a with
      | 0 => exact (Nat.zero_add _).symm
      | 1 => exact (Nat.zero_add _).symm
    · refine (select_apply_ideal (sel x1) _ hs _ _ t ⟨2 * ch.val, by omega⟩ Ideal.ofBits_zero_f32 ?_).trans ?_
      · show 2 * ch.val = 2 * (ch.val % 128) + ch.val / 128; omega
      · exact blk_apply x2 k j _ _ n hn
  have e1 : (extractStridedSlice S128x256 ![128, 0] (matmul (φ₁ := .bf16) (φ₂ := .bf16) dot_S256x256_S256x256_S256x256_1_1_0_0_n_n none (sel x1)
      (shapeCast S256x256 (blk x2 k j : FVec Ideal S256x256 .bf16) shapeCasts_S256x256_S256x256) (constant S256x256 .f32 0x00000000#32)) slices_S256x256_o128_0_S128x256 (ix2 ch t) : EReal)
      = x2 (ix2 t n') := by
    rw [shapeCast_self]
    refine (extractStridedSlice_apply _ _ _ (ix2 ch t) (ix2 (⟨128 + ch.val, by omega⟩ : Fin 256) t) ?_).trans ?_
    · intro a
      match a with
      | 0 => rfl
      | 1 => exact (Nat.zero_add _).symm
    · refine (select_apply_ideal (sel x1) _ hs _ _ t ⟨2 * ch.val + 1, by omega⟩ Ideal.ofBits_zero_f32 ?_).trans ?_
      · show 2 * ch.val + 1 = 2 * ((128 + ch.val) % 128) + (128 + ch.val) / 128; omega
      · exact blk_apply x2 k j _ _ n' (by show _ = _ + (2 * ch.val + 1); omega)
  obtain ⟨g, hg, -⟩ := hx (ix2 t n)
  have key : ∀ a b one κv : EReal, a = x2 (ix2 t n) → b = x2 (ix2 t n') → one = 1 → κv = ((-((Real.log 2)⁻¹) : ℝ) : EReal) →
      a * Ideal.div one (one + Ideal.exp2 (a * κv)) * b = sw (x2 (ix2 t n)) (x2 (ix2 t n')) := by
    rintro a b one κv rfl rfl rfl rfl
    rw [hg]; exact sw_kernel g _
  exact key _ _ _ _ e0 e1 Ideal.ofBits_one_f32 neg_log2_e

/-! ## The largest magnitude -/

/-- A bound of one partial maximum is a bound of the sixteen channels it is over. -/
theorem mT_le (s : Fin 8) (t : Fin 256) (b : EReal) :
    (mT x1 x2 k j (ix2 s t) : EReal) ≤ b ↔ ∀ i : Fin 16, (max (yT x1 x2 k j (ix2 (⟨8 * i.val + s.val, by omega⟩ : Fin 128) t) : EReal)
      (-(yT x1 x2 k j (ix2 (⟨8 * i.val + s.val, by omega⟩ : Fin 128) t) : EReal))) ≤ b := by
  have hval : (mT x1 x2 k j (ix2 s t) : EReal) = (Finset.univ.filter fun i : S16x8x256.Idx => reduces_S16x8x256_S8x256.drop i = ix2 s t).fold max
      (⊥ : EReal) (fun i => (shapeCast S16x8x256 (absf (yT x1 x2 k j)) shapeCasts_S128x256_S16x8x256 i : EReal)) := by
    unfold mT k0_pay5
    refine (multiReduction_maximumf_eq_fold _ _ _ _ _ _).trans ?_
    have hb : (FloatOps.ofBits (F := Ideal) .f32 0xFF800000#32 : EReal) = ⊥ := by
      show Ideal.ofBits .f32 0xFF800000#32 = ⊥
      simp [Ideal.ofBits, Ideal.ieee]
    rw [hb]; rfl
  rw [hval, Finset.fold_max_le]
  have hcast : ∀ (i : Fin 16), (shapeCast S16x8x256 (absf (yT x1 x2 k j)) shapeCasts_S128x256_S16x8x256 (ix3 i s t) : EReal)
      = max (yT x1 x2 k j (ix2 (⟨8 * i.val + s.val, by omega⟩ : Fin 128) t) : EReal)
        (-(yT x1 x2 k j (ix2 (⟨8 * i.val + s.val, by omega⟩ : Fin 128) t) : EReal)) := by
    intro i
    refine (shapeCast_apply (absf (yT x1 x2 k j)) shapeCasts_S128x256_S16x8x256 (ix3 i s t)
      (ix2 (⟨8 * i.val + s.val, by omega⟩ : Fin 128) t) ?_).trans rfl
    rw [Shape.rowMajor_val_two, Shape.rowMajor_val_three]
    show (8 * i.val + s.val) * 256 + t.val = (i.val * 8 + s.val) * 256 + t.val
    ring
  constructor
  · rintro ⟨-, h⟩ i
    rw [← hcast i]
    refine h _ ?_
    rw [Finset.mem_filter]
    refine ⟨Finset.mem_univ _, (eq_ix2 _).trans ?_⟩
    exact congrArg₂ ix2 (Fin.ext (Shape.Reduces.drop_apply_val_of_eq reduces_S16x8x256_S8x256 (ix3 i s t) 0 1))
      (Fin.ext (Shape.Reduces.drop_apply_val_of_eq reduces_S16x8x256_S8x256 (ix3 i s t) 1 2))
  · intro h
    refine ⟨bot_le, fun i hi => ?_⟩
    rw [Finset.mem_filter] at hi
    have e1 : (i 1 : ℕ) = s.val := by
      rw [← Shape.Reduces.drop_apply_val_of_eq reduces_S16x8x256_S8x256 i 0 1, hi.2]
    have e2 : (i 2 : ℕ) = t.val := by
      rw [← Shape.Reduces.drop_apply_val_of_eq reduces_S16x8x256_S8x256 i 1 2, hi.2]
    have ei : i = ix3 (i 0 : Fin 16) s t := (eq_ix3 i).trans (congrArg₂ (ix3 (i 0 : Fin 16)) (Fin.ext e1) (Fin.ext e2))
    rw [ei]
    exact (le_of_eq (hcast (i 0))).trans (h (i 0))

end Channels

end Cert.Proof.KernelIdeal
-- ==== Proof.Scales.lean ====
/-
  What one block's scales and codes are over the extended reals: the powers of two the reference takes, and the group's channels
  times the inverse, clipped.
-/
module

public import proofs.«01_k».proof.Proof.Group

@[expose] public section

set_option maxRecDepth 16384

noncomputable section

namespace Cert.Proof.KernelIdeal

open Cert.KernelIdeal Cert.KernelIdeal.Gen
open Idealize.ShloMosaic hiding ix1 ix2 ix3 ix4 ix5 ix6 eq_ix1 eq_ix2 eq_ix3 eq_ix4
open Idealize.ShloMosaic.ValueIdx Idealize.ShloMosaic.ValueKit
open Cert.Proof.Swish Cert.Proof.Exponent

section Trip

variable (x1 : Vec Ideal S256x256 .bf16) (x2 : Vec Ideal S256x10240 .bf16) (k : Fin k0_t1_loop.trips) (j : Fin 8)

/-! ## The largest magnitude over 448 -/

theorem mArr_apply (h : Fin 2) (r : Fin 64) (t' : Fin 128) : mArr x1 x2 k (ix3 h r t')
    = mT x1 x2 k ⟨r.val / 8, by omega⟩ (ix2 (⟨r.val % 8, by omega⟩ : Fin 8) (⟨128 * h.val + t'.val, by omega⟩ : Fin 256)) := rfl

theorem mRow_apply (h s : ℕ) (hh : h < 2) (hs : s < 8) (t' : Fin 128) :
    mRow x1 x2 k h s (ix2 j t') = mT x1 x2 k j (ix2 (⟨s, hs⟩ : Fin 8) (⟨128 * h + t'.val, by omega⟩ : Fin 256)) := by
  have hj := j.isLt
  have e1 : Fin.ofNat 64 (s + 8 * j.val) = (⟨s + 8 * j.val, by omega⟩ : Fin 64) := Fin.ext (Nat.mod_eq_of_lt (by omega))
  have e0 : Fin.ofNat 2 h = (⟨h, hh⟩ : Fin 2) := Fin.ext (Nat.mod_eq_of_lt hh)
  refine (congrArg (mArr x1 x2 k) (congrArg₂ (fun a b => ix3 a b t') e0 e1)).trans ((mArr_apply x1 x2 k _ _ _).trans ?_)
  have ej : (⟨(s + 8 * j.val) / 8, by omega⟩ : Fin 8) = j := Fin.ext (by show _ / 8 = _; omega)
  have es : (⟨(s + 8 * j.val) % 8, by omega⟩ : Fin 8) = ⟨s, hs⟩ := Fin.ext (by show (s + 8 * j.val) % 8 = s; omega)
  exact congrArg₂ (fun a b => mT x1 x2 k a (ix2 b (⟨128 * h + t'.val, by omega⟩ : Fin 256))) ej es

/-- The larger of eight is at most `b` when each is. -/
theorem max_eight_le (m : Fin 8 → EReal) (b : EReal) :
    max (max (max (max (max (max (max (m 0) (m 1)) (m 2)) (m 3)) (m 4)) (m 5)) (m 6)) (m 7) ≤ b ↔ ∀ s, m s ≤ b := by
  simp only [max_le_iff, Fin.forall_fin_succ, Fin.forall_fin_zero_pi, IsEmpty.forall_iff, and_true]
  simp only [and_assoc]
  exact Iff.rfl

theorem eight_congr (n : ℕ → EReal) (m : Fin 8 → EReal) (h0 : n 0 = m 0) (h1 : n 1 = m 1) (h2 : n 2 = m 2) (h3 : n 3 = m 3) (h4 : n 4 = m 4)
    (h5 : n 5 = m 5) (h6 : n 6 = m 6) (h7 : n 7 = m 7) :
    max (max (max (max (max (max (max (n 0) (n 1)) (n 2)) (n 3)) (n 4)) (n 5)) (n 6)) (n 7)
      = max (max (max (max (max (max (max (m 0) (m 1)) (m 2)) (m 3)) (m 4)) (m 5)) (m 6)) (m 7) := by
  rw [h0, h1, h2, h3, h4, h5, h6, h7]

/-- A bound of the eight partial maxima is a bound of the group's channels. -/
theorem mT_all_le (t : Fin 256) (b : EReal) :
    (∀ s : Fin 8, (mT x1 x2 k j (ix2 s t) : EReal) ≤ b) ↔ ∀ ch : Fin 128, max (yT x1 x2 k j (ix2 ch t) : EReal) (-(yT x1 x2 k j (ix2 ch t) : EReal)) ≤ b := by
  constructor
  · intro h ch
    have := (mT_le x1 x2 k j ⟨ch.val % 8, by omega⟩ t b).1 (h _) ⟨ch.val / 8, by omega⟩
    have e : (⟨8 * (ch.val / 8) + ch.val % 8, by omega⟩ : Fin 128) = ch := Fin.ext (by show 8 * (ch.val / 8) + ch.val % 8 = _; omega)
    rwa [e] at this
  · intro h s
    exact (mT_le x1 x2 k j s t b).2 fun i => h _

/-- Row `j` of the trip's maxima, at token `t`: the group's largest magnitude over 448. -/
theorem aArr_apply (t : Fin 256) : (aArr x1 x2 k (ix2 j t) : EReal) = gval fun ch => (yT x1 x2 k j (ix2 ch t) : EReal) := by
  unfold gval
  refine congrArg (· * (Ideal.ofBits .f32 0x3B124925#32 : EReal)) (eq_gmax fun b => ?_)
  rw [← mT_all_le x1 x2 k j t b]
  by_cases ht : t.val < 128
  · have hm : ∀ (s : ℕ) (hs : s < 8), mRow x1 x2 k 0 s (ix2 j (⟨t.val, ht⟩ : Fin 128)) = mT x1 x2 k j (ix2 (⟨s, hs⟩ : Fin 8) t) := fun s hs =>
      (mRow_apply x1 x2 k j 0 s (by omega) hs _).trans
        (congrArg (fun t : Fin 256 => mT x1 x2 k j (ix2 (⟨s, hs⟩ : Fin 8) t)) (Fin.ext (by show 128 * 0 + t.val = t.val; omega)))
    refine Iff.trans (iff_of_eq (congrArg (· ≤ b) ?_)) (max_eight_le (fun s => mT x1 x2 k j (ix2 s t)) b)
    refine (concatenate_pair_apply_left (s₁ := S8x128) (s₂ := S8x128) 1 _ _ _ (ix2 j t) rfl (ix2 j (⟨t.val, ht⟩ : Fin 128)) (fun a => match a with | 0 => rfl | 1 => rfl)).trans ?_
    exact eight_congr (fun s => mRow x1 x2 k 0 s (ix2 j (⟨t.val, ht⟩ : Fin 128))) (fun s => mT x1 x2 k j (ix2 s t)) (hm 0 (by omega))
      (hm 1 (by omega)) (hm 2 (by omega)) (hm 3 (by omega)) (hm 4 (by omega)) (hm 5 (by omega)) (hm 6 (by omega)) (hm 7 (by omega))
  · have hm : ∀ (s : ℕ) (hs : s < 8), mRow x1 x2 k 1 s (ix2 j (⟨t.val - 128, by omega⟩ : Fin 128)) = mT x1 x2 k j (ix2 (⟨s, hs⟩ : Fin 8) t) :=
      fun s hs => (mRow_apply x1 x2 k j 1 s (by omega) hs _).trans
        (congrArg (fun t : Fin 256 => mT x1 x2 k j (ix2 (⟨s, hs⟩ : Fin 8) t)) (Fin.ext (by show 128 * 1 + (t.val - 128) = t.val; omega)))
    refine Iff.trans (iff_of_eq (congrArg (· ≤ b) ?_)) (max_eight_le (fun s => mT x1 x2 k j (ix2 s t)) b)
    refine (concatenate_pair_apply_right (s₁ := S8x128) (s₂ := S8x128) 1 _ _ _ (ix2 j t) rfl rfl (ix2 j (⟨t.val - 128, by omega⟩ : Fin 128)) ?_ ?_).trans ?_
    · exact fun a ha => match a with | 0 => rfl | 1 => absurd rfl ha
    · show (t.val - 128) + 128 = t.val; omega
    · exact eight_congr (fun s => mRow x1 x2 k 1 s (ix2 j (⟨t.val - 128, by omega⟩ : Fin 128))) (fun s => mT x1 x2 k j (ix2 s t)) (hm 0 (by omega))
        (hm 1 (by omega)) (hm 2 (by omega)) (hm 3 (by omega)) (hm 4 (by omega)) (hm 5 (by omega)) (hm 6 (by omega)) (hm 7 (by omega))

/-! ## The exponent field -/

/-- One step of the search, on every group and token. -/
def vstep (a : FVec Ideal S8x256 .f32) (e : IVec S8x256 32) (d : BitVec 32) : IVec S8x256 32 :=
  select (cmpf .oge a (bitcastToFloat .f32 (addi e (broadcast S8x256 d)))) (addi e (broadcast S8x256 d)) e

theorem select_ofBool {α : Type} (p : Prop) [Decidable p] (a b : α) : Scalar.select (BitVec.ofBool (decide p)) a b = if p then a else b := by
  by_cases h : p
  · rw [if_pos h, decide_eq_true h]; rfl
  · rw [if_neg h, decide_eq_false h]; rfl

theorem vstep_apply (a : FVec Ideal S8x256 .f32) (e : IVec S8x256 32) (d : BitVec 32) (i : S8x256.Idx) : vstep a e d i = stp (a i) (e i) d := by
  unfold stp
  exact select_ofBool (Ideal.ofBits .f32 (e i + d) ≤ (a i : EReal)) _ _

theorem fix_apply (e : BitVec 32) :
    Scalar.select (IntOp.ori (IntOp.cmpi .eq e 0#32) (IntOp.cmpi .eq e 2139095040#32)) 1056964608#32 e = fix e := by
  unfold fix
  by_cases h0 : e = 0#32
  · subst h0; rfl
  · by_cases h1 : e = 2139095040#32
    · subst h1; rfl
    · rw [if_neg (not_or.2 ⟨h0, h1⟩)]
      have c0 : IntOp.cmpi .eq e 0#32 = 0#1 := by
        show BitVec.ofBool (e == 0#32) = _; rw [beq_eq_false_iff_ne.2 h0]; rfl
      have c1 : IntOp.cmpi .eq e 2139095040#32 = 0#1 := by
        show BitVec.ofBool (e == 2139095040#32) = _; rw [beq_eq_false_iff_ne.2 h1]; rfl
      rw [c0, c1]; rfl

theorem field_apply (i : S8x256.Idx) : k0_pay56 (aArr x1 x2 k) (eArr x1 x2 k) k0_pay55 i = fix (search (aArr x1 x2 k i)) := by
  have he : eArr x1 x2 k = vstep (aArr x1 x2 k) (vstep (aArr x1 x2 k) (vstep (aArr x1 x2 k) (broadcast S8x256 0#32) 1073741824#32) 536870912#32) 268435456#32 := rfl
  have hf : k0_pay56 (aArr x1 x2 k) (eArr x1 x2 k) k0_pay55 i = fix (vstep (aArr x1 x2 k) (vstep (aArr x1 x2 k) (vstep (aArr x1 x2 k)
      (vstep (aArr x1 x2 k) (vstep (aArr x1 x2 k) (eArr x1 x2 k) 134217728#32) 67108864#32) 33554432#32) 16777216#32) 8388608#32 i) := fix_apply _
  rw [hf, he]
  simp only [vstep_apply]
  rfl

end Trip

/-! ## The block -/

section Block

variable (x1 : Vec Ideal S256x256 .bf16) (x2 : Vec Ideal S256x10240 .bf16) (h : IsSel x1) (hx : Small x2)
include h hx

/-- Token `t`'s channels, in the trip and at the place that hold them. -/
theorem yT_act (q : Fin 40) (k : Fin k0_t1_loop.trips) (j : Fin 8) (hk : k.val = q.val / 8) (hj : j.val = q.val % 8) (ch : Fin 128) (t : Fin 256) :
    (yT x1 x2 k j (ix2 ch t) : EReal) = act (fun n => x2 (ix2 t n)) q ch :=
  yT_apply x1 x2 k j h hx ch t (gcol q ch) (ucol q ch)
    (by show 256 * q.val + 2 * ch.val = 2048 * k.val + 256 * j.val + 2 * ch.val; omega) rfl

theorem row_val (q : Fin 40) (t : Fin 256) :
    ∃ r : ℝ, gval (act (fun n => (x2 (ix2 t n) : EReal)) q) = (r : EReal) ∧ 0 ≤ r ∧ r < 2 ^ 126 :=
  gval_real (act_small (fun n => hx (ix2 t n)) q)

theorem aArr_act (q : Fin 40) (k : Fin k0_t1_loop.trips) (j : Fin 8) (hk : k.val = q.val / 8) (hj : j.val = q.val % 8) (t : Fin 256) :
    (aArr x1 x2 k (ix2 j t) : EReal) = gval (act (fun n => x2 (ix2 t n)) q) :=
  (aArr_apply x1 x2 k j t).trans (congrArg gval (funext fun ch => yT_act x1 x2 h hx q k j hk hj ch t))

/-- The block's scales. -/
theorem scalesOut_apply (q : Fin 40) (t : Fin 256) :
    (scalesOut x1 x2 (ix3 (0 : Fin 1) q t) : EReal) = scaleOf (gval (act (fun n => x2 (ix2 t n)) q)) := by
  obtain ⟨r, hr, r0, r1⟩ := row_val x1 x2 h hx q t
  have hq := q.isLt
  let k : Fin k0_t1_loop.trips := ⟨q.val / 8, by change _ < 5; omega⟩
  let j : Fin 8 := ⟨q.val % 8, by omega⟩
  have ha : (aArr x1 x2 k (ix2 j t) : EReal) = (r : EReal) := (aArr_act x1 x2 h hx q k j rfl rfl t).trans hr
  have hs : (scT x1 x2 k (ix3 (0 : Fin 1) j t) : EReal) = Ideal.ofBits .f32 (fix (search (aArr x1 x2 k (ix2 j t))) + 8388608#32) := by
    unfold scT k0_pay57
    refine (shapeCast_ab_1ab_apply _ _ _ _ _).trans ?_
    exact congrArg (fun e => Ideal.ofBits .f32 (e + 8388608#32)) (field_apply x1 x2 k (ix2 j t))
  refine Eq.trans (b := (scT x1 x2 k (ix3 (0 : Fin 1) j t) : EReal)) rfl ?_
  rw [hs, ha, hr]
  exact scale_eq r0 r1

/-- The block's codes. -/
theorem codesOut_apply (t : Fin 256) (c : Fin 5120) (q : Fin 40) (ch : Fin 128) (hq : q.val = c.val / 128) (hch : ch.val = c.val % 128) :
    (codesOut x1 x2 (ix2 t c) : EReal) = codeOf (act (fun n => x2 (ix2 t n)) q ch) (gval (act (fun n => x2 (ix2 t n)) q)) := by
  obtain ⟨r, hr, r0, r1⟩ := row_val x1 x2 h hx q t
  have hc := c.isLt
  let k : Fin k0_t1_loop.trips := ⟨c.val / 1024, by change _ < 5; omega⟩
  let j : Fin 8 := ⟨c.val % 1024 / 128, by omega⟩
  have hk : k.val = q.val / 8 := by show c.val / 1024 = _; omega
  have hj : j.val = q.val % 8 := by show c.val % 1024 / 128 = _; omega
  have ha : (aArr x1 x2 k (ix2 j t) : EReal) = (r : EReal) := (aArr_act x1 x2 h hx q k j hk hj t).trans hr
  have hi : (invT x1 x2 k (ix2 j t) : EReal) = invOf (r : EReal) := by
    have h1 : (invT x1 x2 k (ix2 j t) : EReal) = Ideal.ofBits .f32 (2122317824#32 - fix (search (aArr x1 x2 k (ix2 j t)))) :=
      congrArg (fun e => Ideal.ofBits .f32 (2122317824#32 - e)) (field_apply x1 x2 k (ix2 j t))
    rw [h1, ha]; exact inv_eq r0 r1
  have ech : (⟨c.val % 128, by omega⟩ : Fin 128) = ch := Fin.ext hch.symm
  refine Eq.trans (b := (codeT x1 x2 k j (ix2 t (⟨c.val % 128, by omega⟩ : Fin 128)) : EReal)) rfl ?_
  rw [ech, hr]
  unfold codeT k0_pay60
  refine (transpose_ix2_apply _ _ _ _).trans ?_
  have hb : (broadcastTo S128x256 (fun x : S1x256.Idx => invT x1 x2 k (ix2 j (x 1 : Fin 256))) broadcasts_S1x256_S128x256 (ix2 ch t) : EReal) = invOf (r : EReal) :=
    (broadcastTo_1b_ab_apply _ _ _ _).trans hi
  exact congrArg₂ (fun y i : EReal => min (Ideal.ofBits .f32 0x43E00000#32) (max (Ideal.ofBits .f32 0xC3E00000#32) (y * i)))
    (yT_act x1 x2 h hx q k j hk hj ch t) hb

end Block

end Cert.Proof.KernelIdeal
-- ==== Proof.Table.lean ====
/-
  The selection matrix's literal, read entry by entry: row `r` holds a one at column `2·(r mod 128) + r / 128` and zeros elsewhere.
  The literal is a table of 65536 words, so every entry is evaluated, sixteen rows at a time.
-/
module

public import proofs.«01_k».proof.Proof.Gen.KernelIdeal
public import Mathlib.Tactic.FinCases

@[expose] public section

set_option maxRecDepth 16384
set_option maxHeartbeats 0
set_option Elab.async false

noncomputable section

namespace Cert.Proof.KernelIdeal

open Cert.KernelIdeal

/-- Whether `p` holds below `n`. -/
def allBelow (p : Nat → Bool) (n : Nat) : Bool := Nat.rec true (fun k ih => (p k).rec false ih) n

theorem allBelow_spec (p : Nat → Bool) (n : Nat) (h : allBelow p n = true) (k : Nat) (hk : k < n) : p k = true := by
  induction n with
  | zero => omega
  | succ n ih =>
    change (p n).rec false (allBelow p n) = true at h
    cases hp : p n with
    | false => rw [hp] at h; exact absurd h Bool.false_ne_true
    | true =>
      rw [hp] at h
      by_cases he : k = n
      · rw [he]; exact hp
      · exact ih h (by omega)

/-- The column that row `r` picks. -/
def pick (r : Nat) : Nat := Nat.add (Nat.mul 2 (Nat.mod r 128)) (Nat.div r 128)

/-- Whether entry `(r, q)` is the one expected. -/
def entryOk (r q : Nat) : Bool := Nat.beq (lit0t (Nat.add (Nat.mul 256 r) q)).toNat ((Nat.beq q (pick r)).rec 0 0x3F80)

/-- Sixteen rows. -/
def rowsOk (a : Nat) : Bool := allBelow (fun r => allBelow (entryOk (Nat.add (Nat.mul 16 a) r)) 256) 16

theorem rowsOk_all (a : Fin 16) : rowsOk a.val = true := by
  fin_cases a <;> decide +kernel

theorem lit0t_eq (r q : Fin 256) : lit0t (256 * r.val + q.val) = if q.val = 2 * (r.val % 128) + r.val / 128 then 0x3F80#16 else 0x0000#16 := by
  have h := allBelow_spec _ _ (allBelow_spec _ _ (rowsOk_all ⟨r.val / 16, by omega⟩) (r.val % 16) (by omega)) q.val q.isLt
  have hr : Nat.add (Nat.mul 16 (r.val / 16)) (r.val % 16) = r.val := Nat.div_add_mod r.val 16
  change entryOk (Nat.add (Nat.mul 16 (r.val / 16)) (r.val % 16)) q.val = true at h
  rw [hr] at h
  have h' := Nat.eq_of_beq_eq_true h
  apply BitVec.eq_of_toNat_eq
  refine Eq.trans h' ?_
  cases hb : Nat.beq q.val (pick r.val) with
  | true =>
    have hq : q.val = 2 * (r.val % 128) + r.val / 128 := Nat.eq_of_beq_eq_true hb
    rw [if_pos hq]; rfl
  | false =>
    have hq : ¬ q.val = 2 * (r.val % 128) + r.val / 128 := Nat.ne_of_beq_eq_false hb
    rw [if_neg hq]; rfl

end Cert.Proof.KernelIdeal
-- ==== Proof.Arrays.lean ====
/-
  What the two result arrays hold after the run, over the extended reals: the blocks put together, each entry a function of one
  token's gate and up pairs.
-/
module

public import proofs.«01_k».proof.Proof.Scales
public import proofs.«01_k».proof.Proof.Ideal.Run
public import proofs.«01_k».proof.Proof.Table

@[expose] public section

set_option maxRecDepth 16384

noncomputable section

namespace Cert.Proof.KernelIdeal

open Cert.KernelIdeal Cert.KernelIdeal.Gen
open Idealize.ShloMosaic hiding ix1 ix2 ix3 ix4 ix5 ix6 eq_ix1 eq_ix2 eq_ix3 eq_ix4
open Idealize.ShloMosaic.TcCoe Idealize.ShloMosaic.Tactic
open Idealize.ShloMosaic.ValueIdx Idealize.ShloMosaic.ValueKit
open Idealize.ShloMosaic.Pipeline (Dat Cfg Window cellOf)
open Cert.Proof.Swish Cert.Proof.Exponent

variable (m : (ℓ : Loc nD τ sig) → Buf (Elt Ideal) ℓ) (c : Dev nD)

/-- The gate and up pairs, as launched. -/
def gu : Vec Ideal S37x1024x10240 .bf16 := m ((c : Thread nD τ).loc main_arg0)

/-- Those of token `s` of expert `e`. -/
def row (e : Fin 37) (s : Fin 1024) : Fin 10240 → EReal := fun n => gu m c (ix3 e s n)

/-! ## The blocks' places -/

theorem idx0 : ∀ t : Fin cfg0.N, (cfg0.win 0).index t = ![0, 0] := by decide +kernel
theorem idx1 : ∀ t : Fin cfg0.N, (cfg0.win 1).index t = ![t.val, 0] := by decide +kernel
theorem idx2 : ∀ t : Fin cfg0.N, (cfg0.win 2).index t = ![t.val, 0] := by decide +kernel
theorem idx3 : ∀ t : Fin cfg0.N, (cfg0.win 3).index t = ![t.val / 4, 0, t.val % 4] := by decide +kernel

/-! ## The input blocks -/

theorem V_cst : V m c main_cst = fun i => FloatOps.ofBits (F := Ideal) .bf16 (lit0 (S256x256.rowMajor i)) := by
  show StableHlo.after hostOps0 (fun b => m (c, b)) (Proc.devRef .tc main_cst) = _
  entry_read
  rfl

theorem V_v0 : V m c main_v0 = shapeCast S37888x10240 (gu m c) shapeCasts_S37x1024x10240_S37888x10240 := by
  show StableHlo.after hostOps0 (fun b => m (c, b)) (Proc.devRef .tc main_v0) = _
  entry_read
  rfl

/-- The first window's block is the whole selection matrix, -/
theorem iblk0_apply (t : Fin cfg0.N) (x : S256x256.Idx) : (iblk m c 0 t : Vec Ideal S256x256 .bf16) x = V m c main_cst x := by
  unfold iblk
  show V m c main_cst (((cfg0.win 0).blk t).view.emb x) = _
  refine congrArg (V m c main_cst) (funext fun a => Fin.ext ?_)
  match a with
  | 0 => blk_simp [idx0 t]
  | 1 => blk_simp [idx0 t]

theorem sel_iblk (t : Fin cfg0.N) : IsSel (iblk m c 0 t) := by
  intro r q
  refine (iblk0_apply m c t (ix2 r q)).trans ?_
  rw [V_cst]
  have hv : (S256x256.rowMajor (ix2 r q)).val = 256 * r.val + q.val := by
    rw [Shape.rowMajor_val_two]
    show r.val * 256 + q.val = _
    omega
  have hl : lit0 (S256x256.rowMajor (ix2 r q)) = lit0t (256 * r.val + q.val) := by
    rw [← hv]
  show (Ideal.ofBits .bf16 (lit0 (S256x256.rowMajor (ix2 r q))) : EReal) = _
  rw [hl, lit0t_eq]
  by_cases h : q.val = 2 * (r.val % 128) + r.val / 128
  · rw [if_pos h, if_pos h]; exact Ideal.ofBits_one_bf16
  · rw [if_neg h, if_neg h]; exact Ideal.ofBits_zero_bf16

/-- and the second's the 256 tokens of the point: token `256·t + r` of them all. -/
theorem iblk1_apply (t : Fin cfg0.N) (r : Fin 256) (n : Fin 10240) (e : Fin 37) (s : Fin 1024) (h : 256 * t.val + r.val = 1024 * e.val + s.val) :
    (iblk m c 1 t : Vec Ideal S256x10240 .bf16) (ix2 r n) = row m c e s n := by
  unfold iblk
  show V m c main_v0 (((cfg0.win 1).blk t).view.emb (ix2 r n)) = _
  have e0 : (((cfg0.win 1).blk t).view.emb (ix2 r n) 0 : ℕ) = 256 * t.val + r.val := by
    blk_simp [idx1 t]; simp; show t.val * 256 + r.val = _; omega
  have e1 : (((cfg0.win 1).blk t).view.emb (ix2 r n) 1 : ℕ) = n.val := by
    blk_simp [idx1 t]; simp; rfl
  rw [V_v0]
  refine shapeCast_apply _ _ _ (ix3 e s n) ?_
  rw [Shape.rowMajor_val_two, Shape.rowMajor_val_three]
  show (e.val * 1024 + s.val) * 10240 + n.val = _ * 10240 + _
  rw [e0, e1]
  omega

/-! ## The input is small -/

section Small

variable (hx : Small (gu m c))
include hx

theorem small_iblk (t : Fin cfg0.N) : Small (iblk m c 1 t : Vec Ideal S256x10240 .bf16) := by
  intro i
  have ht : t.val < 148 := t.isLt
  have h0 : (i 0).val < 256 := (i 0).isLt
  have h := iblk1_apply m c t (i 0) (i 1) ⟨(256 * t.val + (i 0).val) / 1024, by omega⟩ ⟨(256 * t.val + (i 0).val) % 1024, by omega⟩
    (by show _ = 1024 * (_ / 1024) + _ % 1024; omega)
  obtain ⟨r, hr, hb⟩ := hx (ix3 (⟨(256 * t.val + (i 0).val) / 1024, by omega⟩ : Fin 37) (⟨(256 * t.val + (i 0).val) % 1024, by omega⟩ : Fin 1024) (i 1 : Fin 10240))
  exact ⟨r, (congrArg (iblk m c 1 t : Vec Ideal S256x10240 .bf16) (eq_ix2 i)).trans (h.trans hr), hb⟩

/-! ## The result arrays -/

/-- The codes, all tokens in a row. -/
def codesArr : Vec Ideal S37888x5120 .fp8e4m3 := fun i =>
  let e : Fin 37 := ⟨(i 0).val / 1024, by have := (i 0).isLt; change (i 0).val < 37888 at this; omega⟩
  let s : Fin 1024 := ⟨(i 0).val % 1024, by omega⟩
  let q : Fin 40 := ⟨(i 1).val / 128, by have := (i 1).isLt; change (i 1).val < 5120 at this; omega⟩
  codeOf (act (row m c e s) q ⟨(i 1).val % 128, by omega⟩) (gval (act (row m c e s) q))

/-- The scales, by expert, group and token. -/
def scalesArr : Vec Ideal S37x40x1024 .f32 := fun i =>
  scaleOf (gval (act (row m c (i 0 : Fin 37) (i 2 : Fin 1024)) (i 1 : Fin 40)))

omit hx in
theorem codesArr_apply (i : S37888x5120.Idx) (e : Fin 37) (s : Fin 1024) (q : Fin 40) (ch : Fin 128) (h0 : (i 0).val = 1024 * e.val + s.val)
    (h1 : (i 1).val = 128 * q.val + ch.val) : codesArr m c i = codeOf (act (row m c e s) q ch) (gval (act (row m c e s) q)) := by
  have l0 : (i 0).val < 37888 := (i 0).isLt
  have l1 : (i 1).val < 5120 := (i 1).isLt
  have ee : (⟨(i 0).val / 1024, by omega⟩ : Fin 37) = e := Fin.ext (by show (i 0).val / 1024 = _; omega)
  have es : (⟨(i 0).val % 1024, by omega⟩ : Fin 1024) = s := Fin.ext (by show (i 0).val % 1024 = _; omega)
  have eq : (⟨(i 1).val / 128, by omega⟩ : Fin 40) = q := Fin.ext (by show (i 1).val / 128 = _; omega)
  have ec : (⟨(i 1).val % 128, by omega⟩ : Fin 128) = ch := Fin.ext (by show (i 1).val % 128 = _; omega)
  show codeOf (act (row m c ⟨(i 0).val / 1024, by omega⟩ ⟨(i 0).val % 1024, by omega⟩) ⟨(i 1).val / 128, by omega⟩ ⟨(i 1).val % 128, by omega⟩)
    (gval (act (row m c ⟨(i 0).val / 1024, by omega⟩ ⟨(i 0).val % 1024, by omega⟩) ⟨(i 1).val / 128, by omega⟩)) = _
  rw [ee, es, eq, ec]

omit hx in
theorem scalesArr_apply (i : S37x40x1024.Idx) (e : Fin 37) (q : Fin 40) (s : Fin 1024) (h0 : (i 0).val = e.val) (h1 : (i 1).val = q.val)
    (h2 : (i 2).val = s.val) : scalesArr m c i = scaleOf (gval (act (row m c e s) q)) := by
  have ee : (i 0 : Fin 37) = e := Fin.ext h0
  have eq : (i 1 : Fin 40) = q := Fin.ext h1
  have es : (i 2 : Fin 1024) = s := Fin.ext h2
  show scaleOf (gval (act (row m c (i 0 : Fin 37) (i 2 : Fin 1024)) (i 1 : Fin 40))) = _
  rw [ee, eq, es]

omit hx in
/-- A token's pairs, as the point that holds them sees them. -/
theorem row_iblk (t : Fin cfg0.N) (r : Fin 256) (e : Fin 37) (s : Fin 1024) (h : 256 * t.val + r.val = 1024 * e.val + s.val) :
    (fun n => ((iblk m c 1 t : Vec Ideal S256x10240 .bf16) (ix2 r n) : EReal)) = row m c e s := funext fun n => iblk1_apply m c t r n e s h

theorem codes_arrAt : (dats m 0 c).arrAt 2 cfg0.N = codesArr m c := by
  refine (dats m 0 c).arrAt_eq_of_covers 2 _ (by decide +kernel) fun t hf y => ?_
  blk_simp
  rw [after0_2]
  have ht : t.val < 148 := t.isLt
  have h0 : (y 0).val < 256 := (y 0).isLt
  have h1 : (y 1).val < 5120 := (y 1).isLt
  have e0 : (((cfg0.win 2).blk t).view.emb y 0 : ℕ) = 256 * t.val + (y 0).val := by
    blk_simp [idx2 t]; simp; omega
  have e1 : (((cfg0.win 2).blk t).view.emb y 1 : ℕ) = (y 1).val := by
    blk_simp [idx2 t]
  let e : Fin 37 := ⟨(256 * t.val + (y 0).val) / 1024, by omega⟩
  let s : Fin 1024 := ⟨(256 * t.val + (y 0).val) % 1024, by omega⟩
  let q : Fin 40 := ⟨(y 1).val / 128, by omega⟩
  let ch : Fin 128 := ⟨(y 1).val % 128, by omega⟩
  have hes : 256 * t.val + (y 0).val = 1024 * e.val + s.val := by show _ = 1024 * (_ / 1024) + _ % 1024; omega
  refine Eq.trans ?_ (codesArr_apply m c (((cfg0.win 2).blk t).view.emb y) e s q ch (e0.trans hes) (e1.trans (by show _ = 128 * (_ / 128) + _ % 128; omega))).symm
  refine (congrArg (codesOut (iblk m c 0 t) (iblk m c 1 t)) (eq_ix2 y)).trans
    ((codesOut_apply (iblk m c 0 t) (iblk m c 1 t) (sel_iblk m c t) (small_iblk m c hx t) (y 0) (y 1) q ch rfl rfl).trans ?_)
  rw [row_iblk m c t (y 0) e s hes]

theorem scales_arrAt : (dats m 0 c).arrAt 3 cfg0.N = scalesArr m c := by
  refine (dats m 0 c).arrAt_eq_of_covers 3 _ (by decide +kernel) fun t hf y => ?_
  rw [cast_eq, after0_3]
  have ht : t.val < 148 := t.isLt
  generalize hj : (cfg0.win 3).xinj (cfg0.grid.coords t) y = j
  have hv : ∀ a, (j a : ℕ) = y a := fun a => by rw [← hj]
  clear hj
  change S1x40x256.Idx at j
  have h0 : (j 0).val < 1 := (j 0).isLt
  have h1 : (j 1).val < 40 := (j 1).isLt
  have h2 : (j 2).val < 256 := (j 2).isLt
  have e0 : (((cfg0.win 3).blk t).view.emb y 0 : ℕ) = t.val / 4 := by
    blk_simp [idx3 t]
  have e1 : (((cfg0.win 3).blk t).view.emb y 1 : ℕ) = (j 1).val := by
    rw [hv 1]; blk_simp [idx3 t]
  have e2 : (((cfg0.win 3).blk t).view.emb y 2 : ℕ) = 256 * (t.val % 4) + (j 2).val := by
    rw [hv 2]; blk_simp [idx3 t]; simp; omega
  generalize ((cfg0.win 3).blk t).view.emb y = i at e0 e1 e2 ⊢
  obtain ⟨e, he⟩ : ∃ e : Fin 37, e.val = t.val / 4 := ⟨⟨t.val / 4, by omega⟩, rfl⟩
  obtain ⟨s, hs⟩ : ∃ s : Fin 1024, s.val = 256 * (t.val % 4) + (j 2).val := ⟨⟨256 * (t.val % 4) + (j 2).val, by omega⟩, rfl⟩
  have hes : 256 * t.val + (j 2).val = 1024 * e.val + s.val := by rw [he, hs]; omega
  have ej : j = ix3 (0 : Fin 1) (j 1 : Fin 40) (j 2 : Fin 256) :=
    (eq_ix3 j).trans (congrArg (fun a : Fin 1 => ix3 a (j 1 : Fin 40) (j 2 : Fin 256)) (Fin.ext (by show (j 0).val = 0; omega)))
  refine Eq.trans ?_ (scalesArr_apply m c i e (j 1) s (e0.trans he.symm) e1 (e2.trans hs.symm)).symm
  refine (congrArg (scalesOut (iblk m c 0 t) (iblk m c 1 t)) ej).trans
    ((scalesOut_apply (iblk m c 0 t) (iblk m c 1 t) (sel_iblk m c t) (small_iblk m c hx t) (j 1) (j 2)).trans ?_)
  rw [row_iblk m c t (j 2) e s hes]

end Small

end Cert.Proof.KernelIdeal
-- ==== Proof.Reference.lean ====
/-
  What the reference computes, over the extended reals, index by index: the same functions of one token's gate and up pairs.
-/
module

public import proofs.«01_k».proof.Proof.Gen.ReferenceIdeal
public import proofs.«01_k».proof.Proof.Swish
public import proofs.«01_k».proof.Proof.Exponent
public import Idealize.ShloMosaic.Lib.IdealHost
public import Idealize.ShloMosaic.Lib.Pipeline.ValueKit

@[expose] public section

set_option maxRecDepth 16384

noncomputable section

namespace Cert.Proof.ReferenceIdeal

open Cert.ReferenceIdeal Cert.ReferenceIdeal.Gen
open Idealize.ShloMosaic hiding ix1 ix2 ix3 ix4 ix5 ix6 eq_ix1 eq_ix2 eq_ix3 eq_ix4
open Idealize.ShloMosaic.ValueIdx Idealize.ShloMosaic.ValueKit
open Cert.Proof.Swish Cert.Proof.Exponent

variable (x : Vec Ideal S37x1024x10240 .bf16)

/-! ## The reference's arrays, in its own operations -/

/-- The gates, -/
def gate : FVec Ideal S37x1024x5120 .f32 :=
  extf .f32 (Host.slice S37x1024x5120 ![0, 0, 0] ![1, 1, 2] x slicesBy_S37x1024x10240_S37x1024x5120_0s1_0s1_0s2) bitsLt_bf16_f32

/-- the ups, -/
def up : FVec Ideal S37x1024x5120 .f32 :=
  extf .f32 (Host.slice S37x1024x5120 ![0, 0, 1] ![1, 1, 2] x slicesBy_S37x1024x10240_S37x1024x5120_0s1_0s1_1s2) bitsLt_bf16_f32

/-- the activations, -/
def acts : FVec Ideal S37x1024x5120 .f32 :=
  mulf (mulf (gate x) (Host.divf (broadcastInDim S37x1024x5120 ![] bcast_S_S37x1024x5120 (constant S_ .f32 0x3F800000#32))
    (addf (broadcastInDim S37x1024x5120 ![] bcast_S_S37x1024x5120 (constant S_ .f32 0x3F800000#32)) (Host.exp (Host.negf (gate x)))))) (up x)

/-- by groups of 128, -/
def grouped : FVec Ideal S37x1024x40x128 .f32 := shapeCast _ (acts x) shapeCasts_S37x1024x5120_S37x1024x40x128

/-- each group's largest magnitude, -/
def largest : FVec Ideal S37x1024x40 .f32 :=
  Host.reduce FloatOps.maximumf (Host.absf (grouped x)) (constant S_ .f32 0xFF800000#32) reducesTo_S37x1024x40x128_S37x1024x40_d3 h_S_

/-- over 448, -/
def scaled : FVec Ideal S37x1024x40 .f32 := mulf (largest x) (broadcastInDim S37x1024x40 ![] bcast_S_S37x1024x40 (constant S_ .f32 0x3B124925#32))

/-- the exponents of an array, -/
def expoOf (v : FVec Ideal S37x1024x40 .f32) : FVec Ideal S37x1024x40 .f32 :=
  select (cmpf .olt v (broadcastInDim S37x1024x40 ![] bcast_S_S37x1024x40 (constant S_ .f32 0x00800000#32)))
    (broadcastInDim S37x1024x40 ![] bcast_S_S37x1024x40 (id (constant S_ .f32 0x00000000#32)))
    (addf (Host.floor (Host.divf (Host.log v) (broadcastInDim S37x1024x40 ![] bcast_S_S37x1024x40 (Host.log (constant S_ .f32 0x40000000#32)))))
      (broadcastInDim S37x1024x40 ![] bcast_S_S37x1024x40 (constant S_ .f32 0x3F800000#32)))

/-- the exponents, -/
def expo : FVec Ideal S37x1024x40 .f32 := expoOf (scaled x)

/-- the scales -/
def scales : FVec Ideal S37x1024x40 .f32 :=
  Host.powf (broadcastInDim S37x1024x40 ![] bcast_S_S37x1024x40 (constant S_ .f32 0x40000000#32)) (expo x)

/-- their inverses -/
def invs : FVec Ideal S37x1024x40 .f32 :=
  Host.powf (broadcastInDim S37x1024x40 ![] bcast_S_S37x1024x40 (constant S_ .f32 0x40000000#32)) (Host.negf (expo x))

/-- and the codes. -/
def codes : FVec Ideal S37x1024x5120 .fp8e4m3 :=
  shapeCast _ (Host.convertf .fp8e4m3 (minimumf (broadcastInDim S37x1024x40x128 ![] bcast_S_S37x1024x40x128 (id (constant S_ .f32 0x43E00000#32)))
    (maximumf (broadcastInDim S37x1024x40x128 ![] bcast_S_S37x1024x40x128 (id (constant S_ .f32 0xC3E00000#32)))
      (mulf (grouped x) (broadcastInDim S37x1024x40x128 ![0, 1, 2, 3] bcast_S37x1024x40x1_S37x1024x40x128_0_1_2_3
        (broadcastInDim S37x1024x40x1 ![0, 1, 2] bcast_S37x1024x40_S37x1024x40x1_0_1_2 (invs x))))))) shapeCasts_S37x1024x40x128_S37x1024x5120

/-! ## Read at an index -/

/-- The pairs of token `s` of expert `e`. -/
def row (e : Fin 37) (s : Fin 1024) : Fin 10240 → EReal := fun n => x (ix3 e s n)

theorem gate_apply (e : Fin 37) (s : Fin 1024) (c : Fin 5120) (n : Fin 10240) (hn : n.val = 2 * c.val) : (gate x (ix3 e s c) : EReal) = row x e s n := by
  unfold gate row
  refine Eq.trans (b := (Host.slice S37x1024x5120 ![0, 0, 0] ![1, 1, 2] x slicesBy_S37x1024x10240_S37x1024x5120_0s1_0s1_0s2 (ix3 e s c) : EReal)) rfl ?_
  unfold Host.slice
  refine congrArg x ((eq_ix3 _).trans ?_)
  congr 1
  · exact Fin.ext (by show 0 + 1 * e.val = e.val; omega)
  · exact Fin.ext (by show 0 + 1 * s.val = s.val; omega)
  · exact Fin.ext (by show 0 + 2 * c.val = n.val; omega)

theorem up_apply (e : Fin 37) (s : Fin 1024) (c : Fin 5120) (n : Fin 10240) (hn : n.val = 2 * c.val + 1) : (up x (ix3 e s c) : EReal) = row x e s n := by
  unfold up row
  refine Eq.trans (b := (Host.slice S37x1024x5120 ![0, 0, 1] ![1, 1, 2] x slicesBy_S37x1024x10240_S37x1024x5120_0s1_0s1_1s2 (ix3 e s c) : EReal)) rfl ?_
  unfold Host.slice
  refine congrArg x ((eq_ix3 _).trans ?_)
  congr 1
  · exact Fin.ext (by show 0 + 1 * e.val = e.val; omega)
  · exact Fin.ext (by show 0 + 1 * s.val = s.val; omega)
  · exact Fin.ext (by show 1 + 2 * c.val = n.val; omega)

theorem acts_apply (e : Fin 37) (s : Fin 1024) (c : Fin 5120) (q : Fin 40) (ch : Fin 128) (hc : c.val = 128 * q.val + ch.val) :
    (acts x (ix3 e s c) : EReal) = act (row x e s) q ch := by
  have h1 : ∀ j, (broadcastInDim S37x1024x5120 ![] bcast_S_S37x1024x5120 (constant (F := Ideal) S_ .f32 0x3F800000#32) j : EReal) = 1 := fun j =>
    (broadcastInDim_scalar_apply _ _ _).trans Ideal.ofBits_one_f32
  have hg := gate_apply x e s c (gcol q ch) (by show 256 * q.val + 2 * ch.val = _; omega)
  have hu := up_apply x e s c (ucol q ch) (by show 256 * q.val + 2 * ch.val + 1 = _; omega)
  have key : ∀ g u o₁ o₂ : EReal, g = row x e s (gcol q ch) → u = row x e s (ucol q ch) → o₁ = 1 → o₂ = 1 →
      g * Ideal.div o₁ (o₂ + Ideal.exp (-g)) * u = act (row x e s) q ch := by
    rintro g u o₁ o₂ rfl rfl rfl rfl; rfl
  exact key _ _ _ _ hg hu (h1 _) (h1 _)

theorem grouped_apply (e : Fin 37) (s : Fin 1024) (q : Fin 40) (ch : Fin 128) : (grouped x (ix4 e s q ch) : EReal) = act (row x e s) q ch := by
  have hc : 128 * q.val + ch.val < 5120 := by omega
  unfold grouped
  refine Eq.trans (shapeCast_apply _ _ _ (ix3 e s (⟨128 * q.val + ch.val, hc⟩ : Fin 5120)) ?_) (acts_apply x e s _ q ch rfl)
  rw [Shape.rowMajor_val_three, Shape.rowMajor_val_four]
  show (e.val * 1024 + s.val) * 5120 + (128 * q.val + ch.val) = ((e.val * 1024 + s.val) * 40 + q.val) * 128 + ch.val
  omega

theorem largest_apply (e : Fin 37) (s : Fin 1024) (q : Fin 40) : (largest x (ix3 e s q) : EReal) = gmax (act (row x e s) q) := by
  refine eq_gmax fun b => ?_
  have hv : (largest x (ix3 e s q) : EReal) = (Finset.univ.filter fun i => reducesTo_S37x1024x40x128_S37x1024x40_d3.drop i = ix3 e s q).fold (max : EReal → EReal → EReal)
      (Ideal.ofBits .f32 0xFF800000#32) (Host.absf (grouped x)) := by
    unfold largest
    exact Host.reduce_eq_fold _ _ _ _ _ _
  have hbot : (Ideal.ofBits .f32 0xFF800000#32 : EReal) = ⊥ := by simp [Ideal.ofBits, Ideal.ieee]
  rw [hv, Finset.fold_max_le, hbot]
  refine ⟨fun h ch => ?_, fun h => ⟨bot_le, fun i hi => ?_⟩⟩
  · have h' := h.2 (ix4 e s q ch) (Finset.mem_filter.2 ⟨Finset.mem_univ _, ?_⟩)
    · rw [← grouped_apply x e s q ch]; exact h'
    · refine (eq_ix3 _).trans ?_
      congr 1
  · have hd := (Finset.mem_filter.1 hi).2
    have i0 : (i 0 : Fin 37) = e := Fin.ext ((Shape.ReducesTo.drop_apply_val_of_eq reducesTo_S37x1024x40x128_S37x1024x40_d3 i 0 0).symm.trans (congrArg (fun j : S37x1024x40.Idx => (j 0).val) hd))
    have i1 : (i 1 : Fin 1024) = s := Fin.ext ((Shape.ReducesTo.drop_apply_val_of_eq reducesTo_S37x1024x40x128_S37x1024x40_d3 i 1 1).symm.trans (congrArg (fun j : S37x1024x40.Idx => (j 1).val) hd))
    have i2 : (i 2 : Fin 40) = q := Fin.ext ((Shape.ReducesTo.drop_apply_val_of_eq reducesTo_S37x1024x40x128_S37x1024x40_d3 i 2 2).symm.trans (congrArg (fun j : S37x1024x40.Idx => (j 2).val) hd))
    have hi4 : i = ix4 e s q (i 3 : Fin 128) := (eq_ix4 i).trans (by rw [i0, i1, i2]; rfl)
    have hg : (grouped x i : EReal) = act (row x e s) q (i 3 : Fin 128) := (congrArg (grouped x) hi4).trans (grouped_apply x e s q _)
    show max (grouped x i : EReal) (-(grouped x i : EReal)) ≤ b
    rw [hg]; exact h _

/-- A constant, spread, read at an index. -/
theorem spread_apply (b : BitVec 32) (j : S37x1024x40.Idx) :
    (broadcastInDim S37x1024x40 ![] bcast_S_S37x1024x40 (constant (F := Ideal) S_ .f32 b) j : EReal) = Ideal.ofBits .f32 b :=
  broadcastInDim_scalar_apply _ _ _

theorem scaled_of (a : FVec Ideal S37x1024x40 .f32) (j : S37x1024x40.Idx) :
    (mulf a (broadcastInDim S37x1024x40 ![] bcast_S_S37x1024x40 (constant S_ .f32 0x3B124925#32)) j : EReal) = (a j : EReal) * Ideal.ofBits .f32 0x3B124925#32 :=
  congrArg (fun b : EReal => (a j : EReal) * b) (spread_apply _ j)

theorem scaled_apply (e : Fin 37) (s : Fin 1024) (q : Fin 40) : (scaled x (ix3 e s q) : EReal) = gval (act (row x e s) q) := by
  unfold scaled gval
  refine (scaled_of (largest x) (ix3 e s q)).trans ?_
  rw [largest_apply]

theorem expo_of (v : FVec Ideal S37x1024x40 .f32) (j : S37x1024x40.Idx) : (expoOf v j : EReal) = refExp (v j) := by
  have key : ∀ w t z l o : EReal, t = Ideal.ofBits .f32 0x00800000#32 → z = Ideal.ofBits .f32 0x00000000#32 →
      l = Ideal.log (Ideal.ofBits .f32 0x40000000#32) → o = Ideal.ofBits .f32 0x3F800000#32 →
      (if BitVec.ofBool (decide (w < t)) = 1#1 then z else Ideal.liftRound Int.floor (Ideal.div (Ideal.log w) l) + o) = refExp w := by
    rintro w t z l o rfl rfl rfl rfl
    unfold refExp
    by_cases h : w < Ideal.ofBits .f32 0x00800000#32
    · rw [if_pos h, if_pos (by rw [decide_eq_true h]; rfl)]
    · rw [if_neg h, if_neg (by rw [decide_eq_false h]; decide)]
  exact key (v j) _ _ _ _ (spread_apply _ j) (spread_apply _ j) (broadcastInDim_scalar_apply _ _ j) (spread_apply _ j)

theorem expo_apply (e : Fin 37) (s : Fin 1024) (q : Fin 40) : (expo x (ix3 e s q) : EReal) = refExp (gval (act (row x e s) q)) := by
  unfold expo
  refine (expo_of (scaled x) (ix3 e s q)).trans ?_
  rw [scaled_apply]

theorem pow_of (n : FVec Ideal S37x1024x40 .f32) (j : S37x1024x40.Idx) :
    (Host.powf (broadcastInDim S37x1024x40 ![] bcast_S_S37x1024x40 (constant S_ .f32 0x40000000#32)) n j : EReal) = Ideal.pow (Ideal.ofBits .f32 0x40000000#32) (n j) :=
  congrArg (fun b : EReal => Ideal.pow b (n j)) (spread_apply _ j)

theorem scales_apply (e : Fin 37) (s : Fin 1024) (q : Fin 40) : (scales x (ix3 e s q) : EReal) = scaleOf (gval (act (row x e s) q)) := by
  unfold scales scaleOf
  refine (pow_of (expo x) (ix3 e s q)).trans ?_
  rw [expo_apply]

theorem neg_of (n : FVec Ideal S37x1024x40 .f32) (j : S37x1024x40.Idx) : (Host.negf n j : EReal) = -(n j : EReal) := rfl

theorem invs_apply (e : Fin 37) (s : Fin 1024) (q : Fin 40) : (invs x (ix3 e s q) : EReal) = invOf (gval (act (row x e s) q)) := by
  unfold invs invOf
  refine (pow_of (Host.negf (expo x)) (ix3 e s q)).trans ?_
  rw [neg_of, expo_apply]

theorem clip_of (y i : FVec Ideal S37x1024x40x128 .f32) (j : S37x1024x40x128.Idx) :
    (Host.convertf .fp8e4m3 (minimumf (broadcastInDim S37x1024x40x128 ![] bcast_S_S37x1024x40x128 (id (constant S_ .f32 0x43E00000#32)))
      (maximumf (broadcastInDim S37x1024x40x128 ![] bcast_S_S37x1024x40x128 (id (constant S_ .f32 0xC3E00000#32))) (mulf y i))) j : EReal)
      = min (Ideal.ofBits .f32 0x43E00000#32) (max (Ideal.ofBits .f32 0xC3E00000#32) ((y j : EReal) * (i j : EReal))) := by
  have key : ∀ w lo hi : EReal, lo = Ideal.ofBits .f32 0xC3E00000#32 → hi = Ideal.ofBits .f32 0x43E00000#32 →
      min hi (max lo w) = min (Ideal.ofBits .f32 0x43E00000#32) (max (Ideal.ofBits .f32 0xC3E00000#32) w) := by
    rintro w lo hi rfl rfl; rfl
  exact key ((y j : EReal) * (i j : EReal)) _ _ (broadcastInDim_scalar_apply _ _ j) (broadcastInDim_scalar_apply _ _ j)

/-- An array of the groups, spread over the channels. -/
theorem over_apply (n : FVec Ideal S37x1024x40 .f32) (e : Fin 37) (s : Fin 1024) (q : Fin 40) (ch : Fin 128) :
    broadcastInDim S37x1024x40x128 ![0, 1, 2, 3] bcast_S37x1024x40x1_S37x1024x40x128_0_1_2_3
      (broadcastInDim S37x1024x40x1 ![0, 1, 2] bcast_S37x1024x40_S37x1024x40x1_0_1_2 n) (ix4 e s q ch) = n (ix3 e s q) := by
  refine (broadcastInDim_apply _ _ _ _ (ix4 e s q (0 : Fin 1)) (fun a => ?_)).trans (broadcastInDim_apply _ _ _ _ (ix3 e s q) (fun a => ?_))
  · match a with
    | 0 => rfl
    | 1 => rfl
    | 2 => rfl
    | 3 => rfl
  · match a with
    | 0 => rfl
    | 1 => rfl
    | 2 => rfl

theorem codes_apply (e : Fin 37) (s : Fin 1024) (c : Fin 5120) (q : Fin 40) (ch : Fin 128) (hc : c.val = 128 * q.val + ch.val) :
    (codes x (ix3 e s c) : EReal) = codeOf (act (row x e s) q ch) (gval (act (row x e s) q)) := by
  unfold codes codeOf
  refine Eq.trans (shapeCast_apply _ _ _ (ix4 e s q ch) ?_) ((clip_of _ _ (ix4 e s q ch)).trans ?_)
  · rw [Shape.rowMajor_val_three, Shape.rowMajor_val_four]
    show ((e.val * 1024 + s.val) * 40 + q.val) * 128 + ch.val = (e.val * 1024 + s.val) * 5120 + c.val
    omega
  · rw [over_apply, invs_apply, grouped_apply]

end Cert.Proof.ReferenceIdeal
-- ==== Proof.Result.lean ====
/-
  The kernel's two results after the host's last lines, and that they are the reference's.
-/
module

public import proofs.«01_k».proof.Proof.Arrays
public import proofs.«01_k».proof.Proof.Reference

@[expose] public section

set_option maxRecDepth 16384

noncomputable section

namespace Cert.Proof.KernelIdeal

open Cert.KernelIdeal Cert.KernelIdeal.Gen
open Idealize.ShloMosaic hiding ix1 ix2 ix3 ix4 ix5 ix6 eq_ix1 eq_ix2 eq_ix3 eq_ix4
open Idealize.ShloMosaic.TcCoe Idealize.ShloMosaic.Tactic Idealize.SL.Sem
open Idealize.ShloMosaic.ValueIdx Idealize.ShloMosaic.ValueKit
open Idealize.ShloMosaic.Pipeline (Dat Cfg Window cellOf)
open Cert.Proof.Swish Cert.Proof.Exponent

variable (m : (ℓ : Loc nD τ sig) → Buf (Elt Ideal) ℓ) (ρ : Dev nD → PrngReg) (c : Dev nD)

/-- The codes, by expert. -/
def codesRes : Vec Ideal S37x1024x5120 .fp8e4m3 := shapeCast S37x1024x5120 (codesArr m c) shapeCasts_S37888x5120_S37x1024x5120

/-- The scales, by expert and token. -/
def scalesRes : Vec Ideal S37x1024x40 .f32 := transpose S37x1024x40 [0, 2, 1] (scalesArr m c) transposes_S37x40x1024_S37x1024x40_0_2_1

theorem arrRef_inj : Function.Injective (Pipeline.arrRef spec0) := by decide

section Small

variable (hx : Small (gu m c))
include hx

theorem W_codes : Pipeline.afterTail₀ cfgs (dats m) 0 (V0 m) [hostOps1] c main_v2 = codesRes m c := by
  unfold Pipeline.afterTail₀
  show StableHlo.after hostOps1 _ (Proc.devRef .tc main_v2) = _
  entry_read
  exact congrArg (fun a => shapeCast S37x1024x5120 a shapeCasts_S37888x5120_S37x1024x5120)
    ((Pipeline.withArrays_arr spec0 arrRef_inj c (V0 m c) _ 2).trans (codes_arrAt m c hx))

theorem W_scales : Pipeline.afterTail₀ cfgs (dats m) 0 (V0 m) [hostOps1] c main_v3 = scalesRes m c := by
  unfold Pipeline.afterTail₀
  show StableHlo.after hostOps1 _ (Proc.devRef .tc main_v3) = _
  entry_read
  exact congrArg (fun a => transpose S37x1024x40 [0, 2, 1] a transposes_S37x40x1024_S37x1024x40_0_2_1)
    ((Pipeline.withArrays_arr spec0 arrRef_inj c (V0 m c) _ 3).trans (scales_arrAt m c hx))

end Small

/-- Every run ends with the two results in place and the argument unchanged. -/
theorem run (hx : ∀ c, Small (gu m c)) : θ_run defs (onTc (τ := τ) (main (F := Ideal))) ⟨m, fun _ => 0, ρ⟩ (fun r => ∀ c : Dev nD,
      r.2.mem ((c.tc : Thread nD τ).loc main_v2) = codesRes m c
      ∧ r.2.mem ((c.tc : Thread nD τ).loc main_v3) = scalesRes m c
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (W_codes m c (hx c)),
     ((h c).2 main_v3 (Pipeline.mem_restRefs_of main_v3 (by decide) (by decide))).trans (W_scales m c (hx c)),
     ((h c).2 main_arg0 (Pipeline.mem_restRefs_of main_arg0 (by decide) (by decide))).trans (W_main_arg0 m (dats m) c)⟩) (run_main m ρ)

/-! ## They are the reference's -/

theorem codes_eq : ReferenceIdeal.codes (gu m c) = codesRes m c := by
  funext i
  have hc : (i 2).val < 5120 := (i 2).isLt
  have h0 : (i 0).val < 37 := (i 0).isLt
  have h1 : (i 1).val < 1024 := (i 1).isLt
  have hq : (i 2).val / 128 < 40 := by omega
  have hs : (i 2).val = 128 * ((i 2).val / 128) + (i 2).val % 128 := by omega
  have hn : 1024 * (i 0).val + (i 1).val < 37888 := by omega
  have hr := ReferenceIdeal.codes_apply (gu m c) (i 0) (i 1) (i 2) ⟨(i 2).val / 128, hq⟩ ⟨(i 2).val % 128, Nat.mod_lt _ (by decide)⟩ hs
  have hk := codesArr_apply m c (ix2 (⟨1024 * (i 0).val + (i 1).val, hn⟩ : Fin 37888) (⟨(i 2).val, hc⟩ : Fin 5120)) (i 0) (i 1) ⟨(i 2).val / 128, hq⟩
    ⟨(i 2).val % 128, Nat.mod_lt _ (by decide)⟩ rfl hs
  have hsc : codesRes m c i = codesArr m c (ix2 (⟨1024 * (i 0).val + (i 1).val, hn⟩ : Fin 37888) (⟨(i 2).val, hc⟩ : Fin 5120)) := by
    unfold codesRes
    refine shapeCast_apply _ _ _ _ ?_
    rw [Shape.rowMajor_val_two, Shape.rowMajor_val_three]
    show (1024 * (i 0).val + (i 1).val) * 5120 + (i 2).val = ((i 0).val * 1024 + (i 1).val) * 5120 + (i 2).val
    omega
  exact (congrArg (ReferenceIdeal.codes (gu m c)) (eq_ix3 i)).trans (hr.trans (hk.symm.trans hsc.symm))

theorem scales_eq : ReferenceIdeal.scales (gu m c) = scalesRes m c := by
  funext i
  have hr := ReferenceIdeal.scales_apply (gu m c) (i 0) (i 1) (i 2)
  have hk := scalesArr_apply m c (ix3 (i 0 : Fin 37) (i 2 : Fin 40) (i 1 : Fin 1024)) (i 0) (i 2) (i 1) rfl rfl rfl
  have hsc : scalesRes m c (ix3 (i 0 : Fin 37) (i 1 : Fin 1024) (i 2 : Fin 40)) = scalesArr m c (ix3 (i 0 : Fin 37) (i 2 : Fin 40) (i 1 : Fin 1024)) := by
    unfold scalesRes
    exact transpose_ix3_021_apply _ _ _ _ _
  exact (congrArg (ReferenceIdeal.scales (gu m c)) (eq_ix3 i)).trans (hr.trans (hk.symm.trans (hsc.symm.trans (congrArg (scalesRes m c) (eq_ix3 i).symm))))

end Cert.Proof.KernelIdeal
-- ==== Proof.Pre.lean ====
/-
  The precondition read back: every entry of the gate and up pairs is a real number of magnitude at most 2^64.
-/
module

public import proofs.«01_k».proof.Pre_no_overflow
public import Idealize.ShloMosaic.PureOps.Ideal
public import Idealize.ShloMosaic.PureOps.Ideal.Laws
public import Idealize.ShloMosaic.Lib.IdealHost
public import Idealize.ShloMosaic.Lib.ReduceAll

@[expose] public section

noncomputable section

namespace Cert.Proof.Pre

open Cert.Pre_no_overflow
open Idealize.ShloMosaic Idealize.ShloMosaic.ValueIdx

/-- The predicate's side conditions. -/
theorem facts : Cert.Pre_no_overflow.Facts where
  bitsLt_bf16_f32 := by decide
  bcast_S_S37x1024x10240 := by decide
  reducesTo_S37x1024x10240_S_d0_1_2 := by decide
  h_S_ := by decide

theorem bound : (Ideal.ofBits .f32 0x5F800000#32 : EReal) = ((2 ^ 64 : ℝ) : EReal) := by
  simp [Ideal.ofBits, Ideal.ieee]
  rw [← EReal.coe_pow, ← EReal.coe_pow, ← EReal.coe_mul]
  norm_num

theorem small_of_le (a : EReal) (h : max a (-a) ≤ ((2 ^ 64 : ℝ) : EReal)) : ∃ r : ℝ, a = (r : EReal) ∧ |r| ≤ 2 ^ 64 := by
  obtain ⟨h1, h2⟩ := max_le_iff.1 h
  induction a with
  | bot => exact absurd h2 (by rw [EReal.neg_bot, not_le]; exact EReal.coe_lt_top _)
  | top => exact absurd h1 (by rw [not_le]; exact EReal.coe_lt_top _)
  | coe r =>
    refine ⟨r, rfl, abs_le.2 ⟨?_, EReal.coe_le_coe_iff.1 h1⟩⟩
    rw [← EReal.coe_neg] at h2
    have := EReal.coe_le_coe_iff.1 h2
    linarith

instance : Subsingleton S_.Idx := ⟨fun a b => funext fun i => i.elim0⟩

theorem small_of_pre [Facts] (x : FVec Ideal S37x1024x10240 .bf16) (h : fn (F := Ideal) x = fun _ => 1#1) (i : S37x1024x10240.Idx) :
    ∃ r : ℝ, (x i : EReal) = (r : EReal) ∧ |r| ≤ 2 ^ 64 := by
  have e : fn (F := Ideal) x (fun a => a.elim0) = 1#1 := congrFun h _
  dsimp only [fn] at e
  have hi := Host.reduce_andi_all _ _ _ _ _ e i
  have hb : (broadcastInDim S37x1024x10240 ![] Facts.bcast_S_S37x1024x10240 (constant (F := Ideal) S_ .f32 0x5F800000#32) i : EReal) = ((2 ^ 64 : ℝ) : EReal) :=
    (broadcastInDim_scalar_apply _ _ _).trans bound
  have key : ∀ t : EReal, t = ((2 ^ 64 : ℝ) : EReal) → BitVec.ofBool (decide (max (x i : EReal) (-(x i : EReal)) ≤ t)) = 1#1 →
      max (x i : EReal) (-(x i : EReal)) ≤ ((2 ^ 64 : ℝ) : EReal) := by
    rintro t rfl ht
    by_contra hc
    rw [decide_eq_false hc] at ht
    exact absurd ht (by decide)
  exact small_of_le _ (key _ hb hi)

end Cert.Proof.Pre
-- ==== Proof.lean ====
/-
  The proof of the certificate's claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Ideal.Run
public import proofs.«01_k».proof.Proof.Result
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem

theorem frame_p : Cert.quiescent_Kernel := fun m ρ _ => Kernel.frame m ρ

theorem frame_pi : Cert.quiescent_KernelIdeal := fun m ρ _ => KernelIdeal.frame m ρ

theorem frame_pi_small : @Cert.quiescent_KernelIdeal_pre_no_overflow Cert.KernelIdeal.Gen.facts Pre.facts := fun m ρ _ => KernelIdeal.frame m ρ

theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ri_small : @Cert.quiescent_ReferenceIdeal_pre_no_overflow Cert.ReferenceIdeal.Gen.facts Pre.facts := fun m ρ _ => frame_ri m ρ trivial

/-- The named constant is the real the table gives it. -/
theorem preserves : Cert.preserves_Kernel_KernelIdeal :=
  IdealRules.named_const.statement Cert.KernelIdeal.κ "neg_log2_e" .f32 0xBFB8AA3B#32 ((-((Real.log 2)⁻¹) : ℝ) : EReal) rfl

/-- Both programs end with the same codes and the same scales. -/
theorem algebraic : @Cert.algebraic_KernelIdeal_ReferenceIdeal_pre_no_overflow Cert.KernelIdeal.Gen.facts Cert.ReferenceIdeal.Gen.facts Pre.facts := by
  intro m ρ m' ρ' hpre hagree
  refine ⟨KernelIdeal.codesRes m, KernelIdeal.scalesRes m, KernelIdeal.run m ρ (fun c => @Pre.small_of_pre Pre.facts _ (hpre c)), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [hagree c]; exact KernelIdeal.codes_eq m c
  · rw [hagree c]; exact KernelIdeal.scales_eq m c

theorem claim : Cert.Claim :=
  ⟨Cert.Kernel.Gen.facts, Cert.KernelIdeal.Gen.facts, Cert.ReferenceIdeal.Gen.facts, Pre.facts, frame_p, frame_pi, frame_pi_small, frame_ri, frame_ri_small,
    preserves, algebraic⟩

end Cert.Proof

end
